-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_cube [hPre_unit_cube : Cert.Pre_unit_cube.Facts] (m : (ℓ : Loc Cert.KernelIdeal.nD Cert.KernelIdeal.τ Cert.KernelIdeal.sig) → Buf (Elt Ideal) ℓ) : Prop :=
  ∀ c : Dev Cert.KernelIdeal.nD,
    (Cert.Pre_unit_cube.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_cube [hPre_unit_cube : Cert.Pre_unit_cube.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_cube.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_unit_cube [hKernelIdeal : Cert.KernelIdeal.Facts] [hPre_unit_cube : Cert.Pre_unit_cube.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_cube m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_unit_cube [hReferenceIdeal : Cert.ReferenceIdeal.Facts] [hPre_unit_cube : Cert.Pre_unit_cube.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_cube m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_unit_cube [hKernelIdeal : Cert.KernelIdeal.Facts] [hReferenceIdeal : Cert.ReferenceIdeal.Facts] [hPre_unit_cube : Cert.Pre_unit_cube.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_cube m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_unit_cube : Cert.Pre_unit_cube.Facts),
    quiescent_Kernel (hKernel := hKernel)
    ∧ quiescent_KernelIdeal (hKernelIdeal := hKernelIdeal)
    ∧ quiescent_KernelIdeal_pre_unit_cube (hKernelIdeal := hKernelIdeal) (hPre_unit_cube := hPre_unit_cube)
    ∧ quiescent_ReferenceIdeal (hReferenceIdeal := hReferenceIdeal)
    ∧ quiescent_ReferenceIdeal_pre_unit_cube (hReferenceIdeal := hReferenceIdeal) (hPre_unit_cube := hPre_unit_cube)
    ∧ preserves_Kernel_KernelIdeal
    ∧ algebraic_KernelIdeal_ReferenceIdeal_pre_unit_cube (hKernelIdeal := hKernelIdeal) (hReferenceIdeal := hReferenceIdeal) (hPre_unit_cube := hPre_unit_cube)
-- ==== Pre_unit_cube.lean ====
abbrev S1048576x8 : Shape := ⟨2, ![1048576, 8]⟩
abbrev S8x1001 : Shape := ⟨2, ![8, 1001]⟩
abbrev S8x1000 : Shape := ⟨2, ![8, 1000]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel

variable [Facts]

def fn {F : FTy → Type} [FloatOps F] (main_arg0 : FVec F S1048576x8 .f32) (main_arg1 : FVec F S8x1001 .f32) (main_arg2 : FVec F S8x1000 .f32) : IVec S_ 1 :=
  let main_cst : FVec F S_ .f32 := constant S_ .f32 0x00000000#32
  let main_v0 : FVec F S1048576x8 .f32 := broadcastInDim S1048576x8 ![] bcast_S_S1048576x8 main_cst
  let main_v1 : IVec S1048576x8 1 := cmpf .oge main_arg0 main_v0
  let main_cst_0 : FVec F S_ .f32 := constant S_ .f32 0x3F800000#32
  let main_v2 : FVec F S1048576x8 .f32 := broadcastInDim S1048576x8 ![] bcast_S_S1048576x8 main_cst_0
  let main_v3 : IVec S1048576x8 1 := cmpf .olt main_arg0 main_v2
  let main_v4 : IVec S1048576x8 1 := andi main_v1 main_v3
  let main_c : IVec S_ 1 := constantI S_ 1 1#1
  let main_v5 : IVec S_ 1 := (fun x v => Host.reduce IntOp.andi x v reducesTo_S1048576x8_S_d0_1 h_S_) main_v4 main_c
  main_v5
-- ==== Kernel.lean ====
abbrev S1048576x8 : Shape := ⟨2, ![1048576, 8]⟩
abbrev S8x1001 : Shape := ⟨2, ![8, 1001]⟩
abbrev S8x1000 : Shape := ⟨2, ![8, 1000]⟩
abbrev S8388608 : Shape := ⟨1, ![8388608]⟩
abbrev S8008 : Shape := ⟨1, ![8008]⟩
abbrev S8000 : Shape := ⟨1, ![8000]⟩
abbrev S1048576 : Shape := ⟨1, ![1048576]⟩
abbrev S16384 : Shape := ⟨1, ![16384]⟩
abbrev S2048 : Shape := ⟨1, ![2048]⟩
abbrev S_ : Shape := ⟨0, ![]⟩
abbrev S16 : Shape := ⟨1, ![16]⟩

abbrev nBuf : Table → Nat
  | .hbm => 9
  | .local .scVector .vmem => 5
  | _ => 0

abbrev bufTy : (tb : Table) → Fin (nBuf tb) → BufTy
  | .hbm, ⟨0, _⟩ => ⟨S1048576x8, .f32⟩
  | .hbm, ⟨1, _⟩ => ⟨S8x1001, .f32⟩
  | .hbm, ⟨2, _⟩ => ⟨S8x1000, .f32⟩
  | .hbm, ⟨3, _⟩ => ⟨S8388608, .f32⟩
  | .hbm, ⟨4, _⟩ => ⟨S8008, .f32⟩
  | .hbm, ⟨5, _⟩ => ⟨S8000, .f32⟩
  | .hbm, ⟨6, _⟩ => ⟨S8388608, .f32⟩
  | .hbm, ⟨7, _⟩ => ⟨S1048576, .f32⟩
  | .hbm, ⟨8, _⟩ => ⟨S1048576x8, .f32⟩
  | .local .scVector .vmem, ⟨0, _⟩ => ⟨S8008, .f32⟩
  | .local .scVector .vmem, ⟨1, _⟩ => ⟨S8000, .f32⟩
  | .local .scVector .vmem, ⟨2, _⟩ => ⟨S16384, .f32⟩
  | .local .scVector .vmem, ⟨3, _⟩ => ⟨S16384, .f32⟩
  | .local .scVector .vmem, ⟨4, _⟩ => ⟨S2048, .f32⟩
  | _, _ => ⟨S1048576x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v5 : BitVec 32 := Scalar.addi c0_i32_0 c16_i32
  let c1_i32 : BitVec 32 := 1#32
  ⟨c0_i32_0, v5, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v6 : BitVec 32 := Scalar.muli v1 c32768_i32
  let c0_i32_0 : BitVec 32 := 0#32
  let c1_i32 : BitVec 32 := 1#32
  let arg12 : BitVec 32 := Scf.iv c0_i32_0 c1_i32 k0_t1
  let c2048_i32 : BitVec 32 := 2048#32
  let v7 : BitVec 32 := Scalar.muli arg12 c2048_i32
  let v8 : BitVec 32 := Scalar.addi v6 v7
  let c8_i32_2 : BitVec 32 := 8#32
  let v9 : BitVec 32 := Scalar.muli v8 c8_i32_2
  ![v9.toNat]
@[reducible] def k0_t2_loop : Scf.Loop 32 :=
  let c0_i32_4 : BitVec 32 := 0#32
  let c128_i32 : BitVec 32 := 128#32
  let v10 : BitVec 32 := Scalar.addi c0_i32_4 c128_i32
  let c1_i32_5 : BitVec 32 := 1#32
  ⟨c0_i32_4, v10, c1_i32_5⟩

def k0_chk1 (v17 : IVec S16 32) : Prop :=
  (∀ a x, ((![v17] : Fin 1 → IVec S16 32) a x).toNat < S16384.size a)
theorem k0_idx1_inb : ∀ (v17 : IVec S16 32) (k0_hw1 : k0_chk1 v17), ∀ a x, ((![v17] : Fin 1 → IVec S16 32) a x).toNat < S16384.size a := fun v17 k0_hw1 => k0_hw1

def k0_chk2 (v29 : IVec S16 32) : Prop :=
  (∀ a x, ((![v29] : Fin 1 → IVec S16 32) a x).toNat < S8008.size a)
theorem k0_idx2_inb : ∀ (v29 : IVec S16 32) (k0_hw2 : k0_chk2 v29), ∀ a x, ((![v29] : Fin 1 → IVec S16 32) a x).toNat < S8008.size a := fun v29 k0_hw2 => k0_hw2

def k0_chk3 (v32 : IVec S16 32) : Prop :=
  (∀ a x, ((![v32] : Fin 1 → IVec S16 32) a x).toNat < S8000.size a)
theorem k0_idx3_inb : ∀ (v32 : IVec S16 32) (k0_hw3 : k0_chk3 v32), ∀ a x, ((![v32] : Fin 1 → IVec S16 32) a x).toNat < S8000.size a := fun v32 k0_hw3 => k0_hw3

def k0_chk4 (v35 : IVec S16 32) : Prop :=
  (∀ a x, ((![v35] : Fin 1 → IVec S16 32) a x).toNat < S16384.size a)
theorem k0_idx4_inb : ∀ (v35 : IVec S16 32) (k0_hw4 : k0_chk4 v35), ∀ a x, ((![v35] : Fin 1 → IVec S16 32) a x).toNat < S16384.size a := fun v35 k0_hw4 => k0_hw4

def k0_chk5 (v42 : IVec S16 32) : Prop :=
  (∀ a x, ((![v42] : Fin 1 → IVec S16 32) a x).toNat < S16384.size a)
theorem k0_idx5_inb : ∀ (v42 : IVec S16 32) (k0_hw5 : k0_chk5 v42), ∀ a x, ((![v42] : Fin 1 → IVec S16 32) a x).toNat < S16384.size a := fun v42 k0_hw5 => k0_hw5

def k0_chk6 (v54 : IVec S16 32) : Prop :=
  (∀ a x, ((![v54] : Fin 1 → IVec S16 32) a x).toNat < S8008.size a)
theorem k0_idx6_inb : ∀ (v54 : IVec S16 32) (k0_hw6 : k0_chk6 v54), ∀ a x, ((![v54] : Fin 1 → IVec S16 32) a x).toNat < S8008.size a := fun v54 k0_hw6 => k0_hw6

def k0_chk7 (v57 : IVec S16 32) : Prop :=
  (∀ a x, ((![v57] : Fin 1 → IVec S16 32) a x).toNat < S8000.size a)
theorem k0_idx7_inb : ∀ (v57 : IVec S16 32) (k0_hw7 : k0_chk7 v57), ∀ a x, ((![v57] : Fin 1 → IVec S16 32) a x).toNat < S8000.size a := fun v57 k0_hw7 => k0_hw7

def k0_chk8 (v60 : IVec S16 32) : Prop :=
  (∀ a x, ((![v60] : Fin 1 → IVec S16 32) a x).toNat < S16384.size a)
theorem k0_idx8_inb : ∀ (v60 : IVec S16 32) (k0_hw8 : k0_chk8 v60), ∀ a x, ((![v60] : Fin 1 → IVec S16 32) a x).toNat < S16384.size a := fun v60 k0_hw8 => k0_hw8

def k0_chk9 (v67 : IVec S16 32) : Prop :=
  (∀ a x, ((![v67] : Fin 1 → IVec S16 32) a x).toNat < S16384.size a)
theorem k0_idx9_inb : ∀ (v67 : IVec S16 32) (k0_hw9 : k0_chk9 v67), ∀ a x, ((![v67] : Fin 1 → IVec S16 32) a x).toNat < S16384.size a := fun v67 k0_hw9 => k0_hw9

def k0_chk10 (v79 : IVec S16 32) : Prop :=
  (∀ a x, ((![v79] : Fin 1 → IVec S16 32) a x).toNat < S8008.size a)
theorem k0_idx10_inb : ∀ (v79 : IVec S16 32) (k0_hw10 : k0_chk10 v79), ∀ a x, ((![v79] : Fin 1 → IVec S16 32) a x).toNat < S8008.size a := fun v79 k0_hw10 => k0_hw10

def k0_chk11 (v82 : IVec S16 32) : Prop :=
  (∀ a x, ((![v82] : Fin 1 → IVec S16 32) a x).toNat < S8000.size a)
theorem k0_idx11_inb : ∀ (v82 : IVec S16 32) (k0_hw11 : k0_chk11 v82), ∀ a x, ((![v82] : Fin 1 → IVec S16 32) a x).toNat < S8000.size a := fun v82 k0_hw11 => k0_hw11

def k0_chk12 (v85 : IVec S16 32) : Prop :=
  (∀ a x, ((![v85] : Fin 1 → IVec S16 32) a x).toNat < S16384.size a)
theorem k0_idx12_inb : ∀ (v85 : IVec S16 32) (k0_hw12 : k0_chk12 v85), ∀ a x, ((![v85] : Fin 1 → IVec S16 32) a x).toNat < S16384.size a := fun v85 k0_hw12 => k0_hw12

def k0_chk13 (v92 : IVec S16 32) : Prop :=
  (∀ a x, ((![v92] : Fin 1 → IVec S16 32) a x).toNat < S16384.size a)
theorem k0_idx13_inb : ∀ (v92 : IVec S16 32) (k0_hw13 : k0_chk13 v92), ∀ a x, ((![v92] : Fin 1 → IVec S16 32) a x).toNat < S16384.size a := fun v92 k0_hw13 => k0_hw13

def k0_chk14 (v104 : IVec S16 32) : Prop :=
  (∀ a x, ((![v104] : Fin 1 → IVec S16 32) a x).toNat < S8008.size a)
theorem k0_idx14_inb : ∀ (v104 : IVec S16 32) (k0_hw14 : k0_chk14 v104), ∀ a x, ((![v104] : Fin 1 → IVec S16 32) a x).toNat < S8008.size a := fun v104 k0_hw14 => k0_hw14

def k0_chk15 (v107 : IVec S16 32) : Prop :=
  (∀ a x, ((![v107] : Fin 1 → IVec S16 32) a x).toNat < S8000.size a)
theorem k0_idx15_inb : ∀ (v107 : IVec S16 32) (k0_hw15 : k0_chk15 v107), ∀ a x, ((![v107] : Fin 1 → IVec S16 32) a x).toNat < S8000.size a := fun v107 k0_hw15 => k0_hw15

def k0_chk16 (v110 : IVec S16 32) : Prop :=
  (∀ a x, ((![v110] : Fin 1 → IVec S16 32) a x).toNat < S16384.size a)
theorem k0_idx16_inb : ∀ (v110 : IVec S16 32) (k0_hw16 : k0_chk16 v110), ∀ a x, ((![v110] : Fin 1 → IVec S16 32) a x).toNat < S16384.size a := fun v110 k0_hw16 => k0_hw16

def k0_chk17 (v117 : IVec S16 32) : Prop :=
  (∀ a x, ((![v117] : Fin 1 → IVec S16 32) a x).toNat < S16384.size a)
theorem k0_idx17_inb : ∀ (v117 : IVec S16 32) (k0_hw17 : k0_chk17 v117), ∀ a x, ((![v117] : Fin 1 → IVec S16 32) a x).toNat < S16384.size a := fun v117 k0_hw17 => k0_hw17

def k0_chk18 (v129 : IVec S16 32) : Prop :=
  (∀ a x, ((![v129] : Fin 1 → IVec S16 32) a x).toNat < S8008.size a)
theorem k0_idx18_inb : ∀ (v129 : IVec S16 32) (k0_hw18 : k0_chk18 v129), ∀ a x, ((![v129] : Fin 1 → IVec S16 32) a x).toNat < S8008.size a := fun v129 k0_hw18 => k0_hw18

def k0_chk19 (v132 : IVec S16 32) : Prop :=
  (∀ a x, ((![v132] : Fin 1 → IVec S16 32) a x).toNat < S8000.size a)
theorem k0_idx19_inb : ∀ (v132 : IVec S16 32) (k0_hw19 : k0_chk19 v132), ∀ a x, ((![v132] : Fin 1 → IVec S16 32) a x).toNat < S8000.size a := fun v132 k0_hw19 => k0_hw19

def k0_chk20 (v135 : IVec S16 32) : Prop :=
  (∀ a x, ((![v135] : Fin 1 → IVec S16 32) a x).toNat < S16384.size a)
theorem k0_idx20_inb : ∀ (v135 : IVec S16 32) (k0_hw20 : k0_chk20 v135), ∀ a x, ((![v135] : Fin 1 → IVec S16 32) a x).toNat < S16384.size a := fun v135 k0_hw20 => k0_hw20

def k0_chk21 (v142 : IVec S16 32) : Prop :=
  (∀ a x, ((![v142] : Fin 1 → IVec S16 32) a x).toNat < S16384.size a)
theorem k0_idx21_inb : ∀ (v142 : IVec S16 32) (k0_hw21 : k0_chk21 v142), ∀ a x, ((![v142] : Fin 1 → IVec S16 32) a x).toNat < S16384.size a := fun v142 k0_hw21 => k0_hw21

def k0_chk22 (v154 : IVec S16 32) : Prop :=
  (∀ a x, ((![v154] : Fin 1 → IVec S16 32) a x).toNat < S8008.size a)
theorem k0_idx22_inb : ∀ (v154 : IVec S16 32) (k0_hw22 : k0_chk22 v154), ∀ a x, ((![v154] : Fin 1 → IVec S16 32) a x).toNat < S8008.size a := fun v154 k0_hw22 => k0_hw22

def k0_chk23 (v157 : IVec S16 32) : Prop :=
  (∀ a x, ((![v157] : Fin 1 → IVec S16 32) a x).toNat < S8000.size a)
theorem k0_idx23_inb : ∀ (v157 : IVec S16 32) (k0_hw23 : k0_chk23 v157), ∀ a x, ((![v157] : Fin 1 → IVec S16 32) a x).toNat < S8000.size a := fun v157 k0_hw23 => k0_hw23

def k0_chk24 (v160 : IVec S16 32) : Prop :=
  (∀ a x, ((![v160] : Fin 1 → IVec S16 32) a x).toNat < S16384.size a)
theorem k0_idx24_inb : ∀ (v160 : IVec S16 32) (k0_hw24 : k0_chk24 v160), ∀ a x, ((![v160] : Fin 1 → IVec S16 32) a x).toNat < S16384.size a := fun v160 k0_hw24 => k0_hw24

def k0_chk25 (v167 : IVec S16 32) : Prop :=
  (∀ a x, ((![v167] : Fin 1 → IVec S16 32) a x).toNat < S16384.size a)
theorem k0_idx25_inb : ∀ (v167 : IVec S16 32) (k0_hw25 : k0_chk25 v167), ∀ a x, ((![v167] : Fin 1 → IVec S16 32) a x).toNat < S16384.size a := fun v167 k0_hw25 => k0_hw25

def k0_chk26 (v179 : IVec S16 32) : Prop :=
  (∀ a x, ((![v179] : Fin 1 → IVec S16 32) a x).toNat < S8008.size a)
theorem k0_idx26_inb : ∀ (v179 : IVec S16 32) (k0_hw26 : k0_chk26 v179), ∀ a x, ((![v179] : Fin 1 → IVec S16 32) a x).toNat < S8008.size a := fun v179 k0_hw26 => k0_hw26

def k0_chk27 (v182 : IVec S16 32) : Prop :=
  (∀ a x, ((![v182] : Fin 1 → IVec S16 32) a x).toNat < S8000.size a)
theorem k0_idx27_inb : ∀ (v182 : IVec S16 32) (k0_hw27 : k0_chk27 v182), ∀ a x, ((![v182] : Fin 1 → IVec S16 32) a x).toNat < S8000.size a := fun v182 k0_hw27 => k0_hw27

def k0_chk28 (v185 : IVec S16 32) : Prop :=
  (∀ a x, ((![v185] : Fin 1 → IVec S16 32) a x).toNat < S16384.size a)
theorem k0_idx28_inb : ∀ (v185 : IVec S16 32) (k0_hw28 : k0_chk28 v185), ∀ a x, ((![v185] : Fin 1 → IVec S16 32) a x).toNat < S16384.size a := fun v185 k0_hw28 => k0_hw28

def k0_chk29 (v192 : IVec S16 32) : Prop :=
  (∀ a x, ((![v192] : Fin 1 → IVec S16 32) a x).toNat < S16384.size a)
theorem k0_idx29_inb : ∀ (v192 : IVec S16 32) (k0_hw29 : k0_chk29 v192), ∀ a x, ((![v192] : Fin 1 → IVec S16 32) a x).toNat < S16384.size a := fun v192 k0_hw29 => k0_hw29

def k0_chk30 (v204 : IVec S16 32) : Prop :=
  (∀ a x, ((![v204] : Fin 1 → IVec S16 32) a x).toNat < S8008.size a)
theorem k0_idx30_inb : ∀ (v204 : IVec S16 32) (k0_hw30 : k0_chk30 v204), ∀ a x, ((![v204] : Fin 1 → IVec S16 32) a x).toNat < S8008.size a := fun v204 k0_hw30 => k0_hw30

def k0_chk31 (v207 : IVec S16 32) : Prop :=
  (∀ a x, ((![v207] : Fin 1 → IVec S16 32) a x).toNat < S8000.size a)
theorem k0_idx31_inb : ∀ (v207 : IVec S16 32) (k0_hw31 : k0_chk31 v207), ∀ a x, ((![v207] : Fin 1 → IVec S16 32) a x).toNat < S8000.size a := fun v207 k0_hw31 => k0_hw31

def k0_chk32 (v210 : IVec S16 32) : Prop :=
  (∀ a x, ((![v210] : Fin 1 → IVec S16 32) a x).toNat < S16384.size a)
theorem k0_idx32_inb : ∀ (v210 : IVec S16 32) (k0_hw32 : k0_chk32 v210), ∀ a x, ((![v210] : Fin 1 → IVec S16 32) a x).toNat < S16384.size a := fun v210 k0_hw32 => k0_hw32
def k0_off2 (k0_t2 : Fin k0_t2_loop.trips) : Fin 1 → Nat :=
  let c0_i32_4 : BitVec 32 := 0#32
  let c1_i32_5 : BitVec 32 := 1#32
  let arg13 : BitVec 32 := Scf.iv c0_i32_4 c1_i32_5 k0_t2
  let c16_i32_53 : BitVec 32 := 16#32
  let v216 : BitVec 32 := Scalar.muli arg13 c16_i32_53
  let v217 : Index := Scalar.indexCast v216
  ![v217.toNat]
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v6 : BitVec 32 := Scalar.muli v1 c32768_i32
  let c0_i32_0 : BitVec 32 := 0#32
  let c1_i32 : BitVec 32 := 1#32
  let arg12 : BitVec 32 := Scf.iv c0_i32_0 c1_i32 k0_t1
  let c2048_i32 : BitVec 32 := 2048#32
  let v7 : BitVec 32 := Scalar.muli arg12 c2048_i32
  let v8 : BitVec 32 := Scalar.addi v6 v7
  ![v8.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576x8 : Shape := ⟨2, ![1048576, 8]⟩
abbrev S8x1001 : Shape := ⟨2, ![8, 1001]⟩
abbrev S8x1000 : Shape := ⟨2, ![8, 1000]⟩
abbrev S_ : Shape := ⟨0, ![]⟩
abbrev S1001x8 : Shape := ⟨2, ![1001, 8]⟩
abbrev S1048576x8x1 : Shape := ⟨3, ![1048576, 8, 1]⟩
abbrev S1 : Shape := ⟨1, ![1]⟩
abbrev S1x1x1 : Shape := ⟨3, ![1, 1, 1]⟩
abbrev S1000x8 : Shape := ⟨2, ![1000, 8]⟩
abbrev S8x1 : Shape := ⟨2, ![8, 1]⟩
abbrev S8 : Shape := ⟨1, ![8]⟩
abbrev S1x8 : Shape := ⟨2, ![1, 8]⟩
abbrev S1048576x1 : Shape := ⟨2, ![1048576, 1]⟩
abbrev S1048576 : Shape := ⟨1, ![1048576]⟩

abbrev nBuf : Space → Nat
  | .hbm => 108
  | .vmem => 0
  | .smem => 0
  | _ => 0

abbrev bufTy : (tb : Table) → Fin (tcTables nBuf tb) → BufTy
  | .hbm, ⟨0, _⟩ => ⟨S1048576x8, .f32⟩
  | .hbm, ⟨1, _⟩ => ⟨S8x1001, .f32⟩
  | .hbm, ⟨2, _⟩ => ⟨S8x1000, .f32⟩
  | .hbm, ⟨3, _⟩ => ⟨S_, .f32⟩
  | .hbm, ⟨4, _⟩ => ⟨S1048576x8, .f32⟩
  | .hbm, ⟨5, _⟩ => ⟨S1048576x8, .f32⟩
  | .hbm, ⟨6, _⟩ => ⟨S1048576x8, .f32⟩
  | .hbm, ⟨7, _⟩ => ⟨S1048576x8, .i32⟩
  | .hbm, ⟨8, _⟩ => ⟨S1048576x8, .f32⟩
  | .hbm, ⟨9, _⟩ => ⟨S1048576x8, .f32⟩
  | .hbm, ⟨10, _⟩ => ⟨S_, .i32⟩
  | .hbm, ⟨11, _⟩ => ⟨S1048576x8, .i32⟩
  | .hbm, ⟨12, _⟩ => ⟨S1048576x8, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1048576x8, .i32⟩
  | .hbm, ⟨17, _⟩ => ⟨S1048576x8, .i32⟩
  | .hbm, ⟨18, _⟩ => ⟨S_, .i32⟩
  | .hbm, ⟨19, _⟩ => ⟨S1048576x8, .i32⟩
  | .hbm, ⟨20, _⟩ => ⟨S1048576x8, .i32⟩
  | .hbm, ⟨21, _⟩ => ⟨S1001x8, .f32⟩
  | .hbm, ⟨22, _⟩ => ⟨S_, .i32⟩
  | .hbm, ⟨23, _⟩ => ⟨S1048576x8, .i32⟩
  | .hbm, ⟨24, _⟩ => ⟨S1048576x8, .i1⟩
  | .hbm, ⟨25, _⟩ => ⟨S_, .i32⟩
  | .hbm, ⟨26, _⟩ => ⟨S1048576x8, .i32⟩
  | .hbm, ⟨27, _⟩ => ⟨S1048576x8, .i32⟩
  | .hbm, ⟨28, _⟩ => ⟨S1048576x8, .i32⟩
  | .hbm, ⟨29, _⟩ => ⟨S1048576x8x1, .i32⟩
  | .hbm, ⟨30, _⟩ => ⟨S1, .i32⟩
  | .hbm, ⟨31, _⟩ => ⟨S_, .i32⟩
  | .hbm, ⟨32, _⟩ => ⟨S1048576x8x1, .i32⟩
  | .hbm, ⟨33, _⟩ => ⟨S1048576x8x1, .i1⟩
  | .hbm, ⟨34, _⟩ => ⟨S1x1x1, .i32⟩
  | .hbm, ⟨35, _⟩ => ⟨S1048576x8x1, .i32⟩
  | .hbm, ⟨36, _⟩ => ⟨S1048576x8x1, .i1⟩
  | .hbm, ⟨37, _⟩ => ⟨S1048576x8x1, .i1⟩
  | .hbm, ⟨38, _⟩ => ⟨S_, .i1⟩
  | .hbm, ⟨39, _⟩ => ⟨S1048576x8, .i1⟩
  | .hbm, ⟨40, _⟩ => ⟨S1048576x8, .f32⟩
  | .hbm, ⟨41, _⟩ => ⟨S_, .f32⟩
  | .hbm, ⟨42, _⟩ => ⟨S1048576x8, .f32⟩
  | .hbm, ⟨43, _⟩ => ⟨S1048576x8, .f32⟩
  | .hbm, ⟨44, _⟩ => ⟨S1000x8, .f32⟩
  | .hbm, ⟨45, _⟩ => ⟨S_, .i32⟩
  | .hbm, ⟨46, _⟩ => ⟨S1048576x8, .i32⟩
  | .hbm, ⟨47, _⟩ => ⟨S1048576x8, .i1⟩
  | .hbm, ⟨48, _⟩ => ⟨S_, .i32⟩
  | .hbm, ⟨49, _⟩ => ⟨S1048576x8, .i32⟩
  | .hbm, ⟨50, _⟩ => ⟨S1048576x8, .i32⟩
  | .hbm, ⟨51, _⟩ => ⟨S1048576x8, .i32⟩
  | .hbm, ⟨52, _⟩ => ⟨S1048576x8x1, .i32⟩
  | .hbm, ⟨53, _⟩ => ⟨S1, .i32⟩
  | .hbm, ⟨54, _⟩ => ⟨S_, .i32⟩
  | .hbm, ⟨55, _⟩ => ⟨S1048576x8x1, .i32⟩
  | .hbm, ⟨56, _⟩ => ⟨S1048576x8x1, .i1⟩
  | .hbm, ⟨57, _⟩ => ⟨S1x1x1, .i32⟩
  | .hbm, ⟨58, _⟩ => ⟨S1048576x8x1, .i32⟩
  | .hbm, ⟨59, _⟩ => ⟨S1048576x8x1, .i1⟩
  | .hbm, ⟨60, _⟩ => ⟨S1048576x8x1, .i1⟩
  | .hbm, ⟨61, _⟩ => ⟨S_, .i1⟩
  | .hbm, ⟨62, _⟩ => ⟨S1048576x8, .i1⟩
  | .hbm, ⟨63, _⟩ => ⟨S1048576x8, .f32⟩
  | .hbm, ⟨64, _⟩ => ⟨S_, .f32⟩
  | .hbm, ⟨65, _⟩ => ⟨S1048576x8, .f32⟩
  | .hbm, ⟨66, _⟩ => ⟨S1048576x8, .f32⟩
  | .hbm, ⟨67, _⟩ => ⟨S1048576x8, .f32⟩
  | .hbm, ⟨68, _⟩ => ⟨S1048576x8, .f32⟩
  | .hbm, ⟨69, _⟩ => ⟨S8x1, .f32⟩
  | .hbm, ⟨70, _⟩ => ⟨S8, .f32⟩
  | .hbm, ⟨71, _⟩ => ⟨S1x8, .f32⟩
  | .hbm, ⟨72, _⟩ => ⟨S1048576x8, .f32⟩
  | .hbm, ⟨73, _⟩ => ⟨S1048576x8, .f32⟩
  | .hbm, ⟨74, _⟩ => ⟨S_, .f32⟩
  | .hbm, ⟨75, _⟩ => ⟨S1048576x8, .f32⟩
  | .hbm, ⟨76, _⟩ => ⟨S1048576x8, .f32⟩
  | .hbm, ⟨77, _⟩ => ⟨S8x1, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S1x8, .f32⟩
  | .hbm, ⟨83, _⟩ => ⟨S1048576x8, .f32⟩
  | .hbm, ⟨84, _⟩ => ⟨S1048576x8, .f32⟩
  | .hbm, ⟨85, _⟩ => ⟨S1048576x1, .f32⟩
  | .hbm, ⟨86, _⟩ => ⟨S1048576, .f32⟩
  | .hbm, ⟨87, _⟩ => ⟨S1048576x1, .f32⟩
  | .hbm, ⟨88, _⟩ => ⟨S1048576, .f32⟩
  | .hbm, ⟨89, _⟩ => ⟨S1048576, .f32⟩
  | .hbm, ⟨90, _⟩ => ⟨S1048576x1, .f32⟩
  | .hbm, ⟨91, _⟩ => ⟨S1048576, .f32⟩
  | .hbm, ⟨92, _⟩ => ⟨S1048576, .f32⟩
  | .hbm, ⟨93, _⟩ => ⟨S1048576x1, .f32⟩
  | .hbm, ⟨94, _⟩ => ⟨S1048576, .f32⟩
  | .hbm, ⟨95, _⟩ => ⟨S1048576, .f32⟩
  | .hbm, ⟨96, _⟩ => ⟨S1048576x1, .f32⟩
  | .hbm, ⟨97, _⟩ => ⟨S1048576, .f32⟩
  | .hbm, ⟨98, _⟩ => ⟨S1048576, .f32⟩
  | .hbm, ⟨99, _⟩ => ⟨S1048576x1, .f32⟩
  | .hbm, ⟨100, _⟩ => ⟨S1048576, .f32⟩
  | .hbm, ⟨101, _⟩ => ⟨S1048576, .f32⟩
  | .hbm, ⟨102, _⟩ => ⟨S1048576x1, .f32⟩
  | .hbm, ⟨103, _⟩ => ⟨S1048576, .f32⟩
  | .hbm, ⟨104, _⟩ => ⟨S1048576, .f32⟩
  | .hbm, ⟨105, _⟩ => ⟨S1048576x1, .f32⟩
  | .hbm, ⟨106, _⟩ => ⟨S1048576, .f32⟩
  | .hbm, ⟨107, _⟩ => ⟨S1048576, .f32⟩
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v10 : Ref sig .tc := ⟨.hbm, 43, rfl⟩
abbrev main_v11 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_call3_v0 : Ref sig .tc := ⟨.hbm, 72, rfl⟩
abbrev main_v18 : Ref sig .tc := ⟨.hbm, 73, rfl⟩
abbrev main_cst_2 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_3 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_call4_v0 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩

abbrev nD : Nat := 1
abbrev τ : Topo := Topo.v7x

variable {F : FTy → Type} [FloatOps F]
-- ==== Proof.Vegas.Values.lean ====
module

public import Idealize.ShloMosaic.PureOps

@[expose] public section

/-! What the kernel computes, as functions of positions in flat arrays, over any float instance; and the facts about
    words and indexed stores the run needs. -/

namespace Cert.Vegas

open Idealize.ShloMosaic

variable {F : FTy → Type} [FloatOps F]

/-! ## Flat arrays read at a natural number -/

/-- The element of a flat array at position `k` (past its end, zero). -/
noncomputable def rd {n : ℕ} (f : Vec F ⟨1, ![n]⟩ .f32) (k : ℕ) : F .f32 :=
  if h : k < n then f (Shape.ofLane (d := ![n]) (⟨k, h⟩ : Fin n)) else Scalar.ofBits .f32 0#32

omit [FloatOps F] in
/-- An index of a flat array is the one its only coordinate gives. -/
theorem idx_eq {n : ℕ} (j : (⟨1, ![n]⟩ : Shape).Idx) (k : ℕ) (h : k < n) (e : (j 0).val = k) :
    j = Shape.ofLane (d := ![n]) (⟨k, h⟩ : Fin n) := by
  funext a
  obtain rfl : a = 0 := Fin.eq_zero a
  exact Fin.ext e

/-- The element at an index is the one read at the index's coordinate. -/
theorem apply_eq_rd {n : ℕ} (f : Vec F ⟨1, ![n]⟩ .f32) (j : (⟨1, ![n]⟩ : Shape).Idx) (k : ℕ) (e : (j 0).val = k) :
    f j = rd f k := by
  have h : k < n := e ▸ (j 0).isLt
  rw [rd, dif_pos h, ← idx_eq j k h e]

/-- Two flat arrays that read alike at every position in range are one. -/
theorem rd_ext {n : ℕ} {f g : Vec F ⟨1, ![n]⟩ .f32} (h : ∀ k < n, rd f k = rd g k) : f = g := by
  funext j
  rw [apply_eq_rd f j _ rfl, apply_eq_rd g j _ rfl]
  exact h _ (j 0).isLt

/-- The flat array of a function of positions. -/
def flat (n : ℕ) (f : ℕ → F .f32) : Vec F ⟨1, ![n]⟩ .f32 := fun j => f (j 0).val

/-- Reading the flat array of a function is the function. -/
theorem rd_flat {n : ℕ} (f : ℕ → F .f32) {k : ℕ} (h : k < n) : rd (flat n f) k = f k := by
  rw [rd, dif_pos h]; rfl

/-- An indexed load from a flat array reads, in each lane, the position the lane's word names. -/
theorem loadIdx_eq_rd {n : ℕ} {t : Shape} (f : Vec F ⟨1, ![n]⟩ .f32) (p : IVec t 32)
    (h : ∀ a x, ((![p] : Fin 1 → IVec t 32) a x).toNat < (⟨1, ![n]⟩ : Shape).size a) (x : t.Idx) :
    loadIdx f (![p] : Fin 1 → IVec t 32) h x = rd f (p x).toNat :=
  apply_eq_rd f _ _ rfl

/-! ## Indexed stores -/

/-- Updating a function along a list, a place no entry names keeps its value. -/
theorem foldl_update_miss {K J V : Type} (P : K → J → Prop) [∀ k j, Decidable (P k j)] (v : K → V) (j : J) :
    ∀ (l : List K) (g : J → V), (∀ k ∈ l, ¬ P k j) → l.foldl (fun g k j => if P k j then v k else g j) g j = g j
  | [], _, _ => rfl
  | a :: l, g, h => by
    rw [List.foldl_cons, foldl_update_miss P v j l _ fun k hk => h k (List.mem_cons_of_mem _ hk),
      if_neg (h a List.mem_cons_self)]

/-- Updating a function along a list, a place some entry names takes the value all the entries naming it give. -/
theorem foldl_update_hit {K J V : Type} (P : K → J → Prop) [∀ k j, Decidable (P k j)] (v : K → V) (j : J) (w : V) :
    ∀ (l : List K) (g : J → V), (∃ k ∈ l, P k j) → (∀ k ∈ l, P k j → v k = w) →
      l.foldl (fun g k j => if P k j then v k else g j) g j = w
  | [], _, h, _ => by simp at h
  | a :: l, g, h, hw => by
    rw [List.foldl_cons]
    by_cases hl : ∃ k ∈ l, P k j
    · exact foldl_update_hit P v j w l _ hl fun k hk => hw k (List.mem_cons_of_mem _ hk)
    · have hm : ∀ k ∈ l, ¬ P k j := fun k hk hp => hl ⟨k, hk, hp⟩
      obtain ⟨k, hk, hp⟩ := h
      rcases List.mem_cons.mp hk with rfl | hk
      · rw [foldl_update_miss P v j l _ hm, if_pos hp]
        exact hw _ List.mem_cons_self hp
      · exact absurd hp (hm k hk)

omit [FloatOps F] in
/-- A single coordinate agrees when all do. -/
theorem forall_fin_one {n : ℕ} (j i : (⟨1, ![n]⟩ : Shape).Idx) :
    (∀ a, (j a).val = (i a).val) ↔ (j 0).val = (i 0).val :=
  ⟨fun h => h 0, fun h a => by obtain rfl : a = 0 := Fin.eq_zero a; exact h⟩

/-- An unmasked indexed store into a flat array: a position some lane names takes the value the lanes naming it hold. -/
theorem storeIdx_hit {n m : ℕ} (f : Vec F ⟨1, ![n]⟩ .f32) (p : IVec ⟨1, ![m]⟩ 32) (v : Vec F ⟨1, ![m]⟩ .f32)
    (h : ∀ a x, ((![p] : Fin 1 → IVec ⟨1, ![m]⟩ 32) a x).toNat < (⟨1, ![n]⟩ : Shape).size a) {q : ℕ} (hq : q < n)
    (x : (⟨1, ![m]⟩ : Shape).Idx) (hx : (p x).toNat = q) {w : F .f32} (hw : ∀ x', (p x').toNat = q → v x' = w) :
    rd (storeIdx f (![p] : Fin 1 → IVec ⟨1, ![m]⟩ 32) v (fun _ => 1#1) false h) q = w := by
  rw [rd, dif_pos hq]
  refine foldl_update_hit (K := Fin m)
    (fun k j => ∀ a, (j a).val = (idxAt (![p] : Fin 1 → IVec ⟨1, ![m]⟩ 32) h (Shape.ofLane (d := ![m]) k) a).val)
    (fun k => v (Shape.ofLane (d := ![m]) k)) _ w (List.finRange m) f ⟨x 0, List.mem_finRange _, ?_⟩ ?_
  · exact (forall_fin_one _ _).mpr
      (hx.symm.trans (congrArg (fun z => (p z).toNat) (idx_eq x (x 0).val (x 0).isLt rfl)))
  · intro k _ hk
    exact hw _ ((forall_fin_one _ _).mp hk).symm

/-- An unmasked indexed store into a flat array: a position no lane names keeps its value. -/
theorem storeIdx_miss {n m : ℕ} (f : Vec F ⟨1, ![n]⟩ .f32) (p : IVec ⟨1, ![m]⟩ 32) (v : Vec F ⟨1, ![m]⟩ .f32)
    (h : ∀ a x, ((![p] : Fin 1 → IVec ⟨1, ![m]⟩ 32) a x).toNat < (⟨1, ![n]⟩ : Shape).size a) {q : ℕ}
    (hq : ∀ x, (p x).toNat ≠ q) :
    rd (storeIdx f (![p] : Fin 1 → IVec ⟨1, ![m]⟩ 32) v (fun _ => 1#1) false h) q = rd f q := by
  rw [rd, rd]
  split
  · refine foldl_update_miss (K := Fin m)
      (fun k j => ∀ a, (j a).val = (idxAt (![p] : Fin 1 → IVec ⟨1, ![m]⟩ 32) h (Shape.ofLane (d := ![m]) k) a).val)
      (fun k => v (Shape.ofLane (d := ![m]) k)) _ (List.finRange m) f fun k _ hk => ?_
    exact hq _ ((forall_fin_one _ _).mp hk).symm
  · rfl

/-- A flat array with a run of its positions overwritten, read at a position. -/
theorem rd_updateSlice {n m : ℕ} (f : Vec F ⟨1, ![n]⟩ .f32) (w : Vec F ⟨1, ![m]⟩ .f32) (off : Fin 1 → ℕ)
    (h : (⟨1, ![n]⟩ : Shape).Slices off ⟨1, ![m]⟩) {r : ℕ} (hr : r < n) :
    rd (updateSlice f w off h) r = if off 0 ≤ r ∧ r < off 0 + m then rd w (r - off 0) else rd f r := by
  have hiff : (∀ a : Fin 1, off a ≤ (Shape.ofLane (d := ![n]) (⟨r, hr⟩ : Fin n) a).val
      ∧ (Shape.ofLane (d := ![n]) (⟨r, hr⟩ : Fin n) a).val < off a + (![m] : Fin 1 → ℕ) a) ↔ (off 0 ≤ r ∧ r < off 0 + m) :=
    ⟨fun h => h 0, fun h a => by obtain rfl : a = 0 := Fin.eq_zero a; exact h⟩
  conv_lhs => rw [rd, dif_pos hr]
  unfold updateSlice
  by_cases hin : off 0 ≤ r ∧ r < off 0 + m
  · rw [if_pos hin]
    exact (dif_pos (hiff.mpr hin)).trans (apply_eq_rd w _ _ rfl)
  · rw [if_neg hin]
    exact (dif_neg (mt hiff.mp hin)).trans (apply_eq_rd f _ _ rfl)

/-! ## Bins -/

/-- A coordinate times the number of bins. -/
noncomputable def scaled (y : F .f32) : F .f32 := FloatOps.mulf y (Scalar.ofBits .f32 0x447A0000#32)

/-- The bin of a coordinate as a word: its scaled value truncated, then clipped to 0 … 999. -/
noncomputable def binWord (y : F .f32) : BitVec 32 :=
  IntOp.minsi (IntOp.maxsi (FloatOps.fptosi 32 (scaled y)) 0#32) 999#32

/-- The bin of a coordinate. -/
noncomputable def bin (y : F .f32) : ℕ := (binWord y).toNat

/-- A word clipped to 0 … 999 is at most 999. -/
theorem clip_le (z : BitVec 32) : (IntOp.minsi (IntOp.maxsi z 0#32) 999#32).toNat ≤ 999 := by
  unfold IntOp.minsi IntOp.maxsi
  by_cases h0 : (0#32).slt z
  · rw [if_pos h0]
    split
    · rename_i h
      have h1 : z.toInt < 999 := by simpa [BitVec.slt] using h
      have h2 : 0 < z.toInt := by simpa [BitVec.slt] using h0
      have h3 := BitVec.toInt_eq_toNat_cond z
      split at h3 <;> omega
    · decide
  · rw [if_neg h0]
    decide

/-- A bin is at most 999. -/
theorem bin_le (y : F .f32) : bin y ≤ 999 := clip_le _

/-- Words whose numbers add up without wrapping: the sum's number is the sum. -/
theorem toNat_addi {a b : BitVec 32} (h : a.toNat + b.toNat < 2 ^ 32) : (IntOp.addi a b).toNat = a.toNat + b.toNat := by
  rw [IntOp.addi, BitVec.toNat_add, Nat.mod_eq_of_lt h]

/-! ## The map and its Jacobian -/

/-- The mapped coordinate at flat position `q` (sample `q / 8`, dimension `q % 8`): the left edge of the bin, plus the
    bin's width times how far into the bin the scaled coordinate lies. `G` holds 1001 edges and `I` 1000 widths for
    each dimension. -/
noncomputable def xAt (G I Y : ℕ → F .f32) (q : ℕ) : F .f32 :=
  FloatOps.addf (G (bin (Y q) + 1001 * (q % 8)))
    (FloatOps.mulf (I (bin (Y q) + 1000 * (q % 8))) (FloatOps.subf (scaled (Y q)) (FloatOps.sitofp .f32 (binWord (Y q)))))

/-- The Jacobian of sample `r` over its first so many dimensions: one, times each dimension's bin width times the number
    of bins. -/
noncomputable def jacAt (I Y : ℕ → F .f32) (r : ℕ) : ℕ → F .f32
  | 0 => Scalar.ofBits .f32 0x3F800000#32
  | d + 1 => FloatOps.mulf (jacAt I Y r d)
      (FloatOps.mulf (I (bin (Y (8 * r + d)) + 1000 * d)) (Scalar.ofBits .f32 0x447A0000#32))

/-- The mapped coordinates of a shifted array are the shifted mapped coordinates, the shift a whole number of samples. -/
theorem xAt_shift (G I Y : ℕ → F .f32) (o q : ℕ) (ho : o % 8 = 0) :
    xAt G I (fun k => Y (o + k)) q = xAt G I Y (o + q) := by
  have h : (o + q) % 8 = q % 8 := by omega
  rw [xAt, xAt, h]

/-- The Jacobians of a shifted array are the shifted Jacobians. -/
theorem jacAt_shift (I Y : ℕ → F .f32) (o r : ℕ) :
    ∀ d, jacAt I (fun k => Y (8 * o + k)) r d = jacAt I Y (o + r) d
  | 0 => rfl
  | d + 1 => by
    have h : 8 * (o + r) + d = 8 * o + (8 * r + d) := by omega
    rw [jacAt, jacAt, jacAt_shift I Y o r d, h]

/-- The mapped coordinate depends on the coordinate at its own position only. -/
theorem xAt_congr (G I : ℕ → F .f32) {Y Y' : ℕ → F .f32} {q : ℕ} (h : Y q = Y' q) : xAt G I Y q = xAt G I Y' q := by
  rw [xAt, xAt, h]

/-- The Jacobian depends on the coordinates of its own sample only. -/
theorem jacAt_congr (I : ℕ → F .f32) {Y Y' : ℕ → F .f32} {r : ℕ} :
    ∀ d ≤ 8, (∀ k < 8, Y (8 * r + k) = Y' (8 * r + k)) → jacAt I Y r d = jacAt I Y' r d
  | 0, _, _ => rfl
  | d + 1, hd, h => by
    rw [jacAt, jacAt, jacAt_congr I d (by omega) h, h d (by omega)]

end Cert.Vegas
-- ==== Proof.VegasIdeal.Group.lean ====
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Gen.KernelIdeal
public import proofs.«01_k».proof.Proof.Gen.KernelIdeal.Skeleton

@[expose] public section

namespace Cert.KernelIdeal.Vegas

open Idealize.ShloMosaic Idealize.SL Idealize.SL.Sem Cert.KernelIdeal.Gen

variable {F : FTy → Type} [FloatOps F]

/-- Eight times the lane's number, lane by lane. -/
def lanes8 : IVec S16 32 := muli (iota .scVector S16 32 [0] iota_S16_d0_w32_scVector) (broadcast S16 8#32)

/-- The offset in the block of the first coordinate of each lane's sample, for the group `g` of sixteen samples. -/
def groupBase (g : Fin k0_t2_loop.trips) : IVec S16 32 :=
  addi (broadcast S16 (Scalar.muli (Scf.iv 0#32 1#32 g) 128#32)) lanes8

/-- The bin each lane's scaled coordinate falls in: truncated, then clipped to the range of the bins. -/
def binOf (t : FVec F S16 .f32) : IVec S16 32 :=
  minsi (maxsi (fptosi 32 t) (broadcast S16 0#32)) (broadcast S16 999#32)

/-- The positions in the block that dimension `dd` of a group reads and writes. -/
def stepPos (b : IVec S16 32) (dd : ℕ) : IVec S16 32 := addi b (broadcast S16 (BitVec.ofNat 32 dd))

/-- The scaled coordinates of a vector of coordinates. -/
noncomputable def scaledVec (y : FVec F S16 .f32) : FVec F S16 .f32 :=
  mulf y (broadcast S16 (Scalar.ofBits .f32 0x447A0000#32))

/-- Dimension `dd`'s place in a table of `w` entries a dimension, at the bins of a vector of coordinates. -/
noncomputable def tablePos (y : FVec F S16 .f32) (w dd : ℕ) : IVec S16 32 :=
  addi (binOf (scaledVec y)) (broadcast S16 (BitVec.ofNat 32 (w * dd)))

/-- The mapped coordinates from the coordinates and their bins' left edges and widths. -/
noncomputable def stepVal (y e w : FVec F S16 .f32) : FVec F S16 .f32 :=
  addf e (mulf w (subf (scaledVec y) (sitofp .f32 (binOf (scaledVec y)))))

/-- The Jacobians multiplied on by the bins' widths times the number of bins. -/
noncomputable def stepJac (jac w : FVec F S16 .f32) : FVec F S16 .f32 :=
  mulf jac (mulf w (broadcast S16 (Scalar.ofBits .f32 0x447A0000#32)))

/-- One dimension of a group: load the coordinates, find their bins, load the bins' left edges and widths, store the
    mapped coordinates and multiply the Jacobians on. -/
noncomputable def stepProg (i : grid0.Coords)
    (arg7 : Memref sig .scVector .vmem S8008 .f32) (arg8 : Memref sig .scVector .vmem S8000 .f32)
    (arg9 : Memref sig .scVector .vmem S16384 .f32) (arg10 : Memref sig .scVector .vmem S16384 .f32)
    (b : IVec S16 32) (jac : FVec F S16 .f32) (dd : Nat) :
    Prog (TpuEff nD τ sig (Elt F) Λ₀ (.scVector ((i 0).castLE hcore0) ((i 1).castLE hsub0))) (FVec F S16 .f32) :=
  .op (.assume (k0_chk1 (stepPos b dd)) (k0_chk1.dec _)) fun h1 =>
  SparseCore.vectorLoadIdx arg9 ![stepPos b dd] (k0_idx1_inb _ h1.down) (View.loads_vmem h_S16384)
    >>= fun (y : Vec F S16 .f32) =>
  .op (.assume (k0_chk2 (tablePos y 1001 dd)) (k0_chk2.dec _)) fun h2 =>
  SparseCore.vectorLoadIdx arg7 ![tablePos y 1001 dd] (k0_idx2_inb _ h2.down) (View.loads_vmem h_S8008)
    >>= fun (e : Vec F S16 .f32) =>
  .op (.assume (k0_chk3 (tablePos y 1000 dd)) (k0_chk3.dec _)) fun h3 =>
  SparseCore.vectorLoadIdx arg8 ![tablePos y 1000 dd] (k0_idx3_inb _ h3.down) (View.loads_vmem h_S8000)
    >>= fun (w : Vec F S16 .f32) =>
  .op (.assume (k0_chk4 (stepPos b dd)) (k0_chk4.dec _)) fun h4 =>
  SparseCore.vectorStoreIdx arg10 ![stepPos b dd] (stepVal y e w) (fun _ => 1#1) false (k0_idx4_inb _ h4.down)
    (View.stores_vmem_bits_univ h_S16384 rfl)
    >>= fun _ => .ret (stepJac jac w)

/-- A group of sixteen samples: the eight dimensions in turn from a Jacobian of one, then the Jacobians stored. -/
noncomputable def groupProg (i : grid0.Coords)
    (arg7 : Memref sig .scVector .vmem S8008 .f32) (arg8 : Memref sig .scVector .vmem S8000 .f32)
    (arg9 : Memref sig .scVector .vmem S16384 .f32) (arg10 : Memref sig .scVector .vmem S16384 .f32)
    (arg11 : Memref sig .scVector .vmem S2048 .f32) (g : Fin k0_t2_loop.trips) :
    Prog (TpuEff nD τ sig (Elt F) Λ₀ (.scVector ((i 0).castLE hcore0) ((i 1).castLE hsub0))) PUnit := do
  let jac : FVec F S16 .f32 ← List.foldlM (stepProg i arg7 arg8 arg9 arg10 (groupBase g))
    (broadcast S16 (Scalar.ofBits .f32 0x3F800000#32)) [0, 1, 2, 3, 4, 5, 6, 7]
  let _ : Vec F S16 .f32 ← Prog.lift (.load arg11
    (Rect.unit (s := S2048) (k0_off2 g) S16.size (k0_off2_inb g)).toLoadRect (View.loadsAt_vmem h_S16))
  Prog.lift (.store arg11 (Rect.unit (s := S2048) (k0_off2 g) S16.size (k0_off2_inb g)) jac Finset.univ
    (View.stores_vmem_bits_univ h_S16 rfl) (.inl rfl))
  pure ⟨⟩

/-- One block of 2048 samples: its coordinates brought in, its 128 groups run, the mapped coordinates and the
    Jacobians sent out. -/
noncomputable def blockProg (i : grid0.Coords)
    (arg2 : Memref sig .scVector .hbm S8388608 .f32)
    (arg5 : Memref sig .scVector .hbm S8388608 .f32)
    (arg6 : Memref sig .scVector .hbm S1048576 .f32)
    (arg7 : Memref sig .scVector .vmem S8008 .f32) (arg8 : Memref sig .scVector .vmem S8000 .f32)
    (arg9 : Memref sig .scVector .vmem S16384 .f32) (harg9 : arg9.IsWhole)
    (arg10 : Memref sig .scVector .vmem S16384 .f32) (harg10 : arg10.IsWhole)
    (arg11 : Memref sig .scVector .vmem S2048 .f32) (harg11 : arg11.IsWhole)
    (r2 r3 r4 : DmaSems sig S_) (k0_t1 : Fin k0_t1_loop.trips) :
    Prog (TpuEff nD τ sig (Elt F) Λ₀ (.scVector ((i 0).castLE hcore0) ((i 1).castLE hsub0))) PUnit := do
  let src : Memref sig .scVector .hbm S16384 .f32 := arg2.slice (Rect.unit (s := S8388608) (k0_off1 i k0_t1) S16384.size (k0_off1_inb i k0_t1)) (fun _ => rfl)
  Prog.lift (.enqueueDma src (.here arg9) (.dma r2.sem) (View.wordExact_bits rfl) harg9.wordExact ⟨Or.inl rfl, trivial⟩)
  Prog.lift (.waitDma2 r2.sem src arg9 (View.wordExact_bits rfl) harg9.wordExact)
  Scf.Loop.for k0_t2_loop k0_t2_ok ⟨⟩ fun k0_t2 _ => groupProg i arg7 arg8 arg9 arg10 arg11 k0_t2
  let dst : Memref sig .scVector .hbm S16384 .f32 := arg5.slice (Rect.unit (s := S8388608) (k0_off1 i k0_t1) S16384.size (k0_off1_inb i k0_t1)) (fun _ => rfl)
  Prog.lift (.enqueueDma arg10 (.here dst) (.dma r3.sem) harg10.wordExact (View.wordExact_bits rfl) ⟨Or.inl rfl, trivial⟩)
  Prog.lift (.waitDma2 r3.sem arg10 dst harg10.wordExact (View.wordExact_bits rfl))
  let dst' : Memref sig .scVector .hbm S2048 .f32 := arg6.slice (Rect.unit (s := S1048576) (k0_off3 i k0_t1) S2048.size (k0_off3_inb i k0_t1)) (fun _ => rfl)
  Prog.lift (.enqueueDma arg11 (.here dst') (.dma r4.sem) harg11.wordExact (View.wordExact_bits rfl) ⟨Or.inl rfl, trivial⟩)
  Prog.lift (.waitDma2 r4.sem arg11 dst' harg11.wordExact (View.wordExact_bits rfl))
  pure ⟨⟩

/-- The kernel in these pieces: the two tables brought in, then the sixteen blocks. -/
theorem cc0_vegas_eq (i : grid0.Coords) (arg2 : Memref sig .scVector .hbm S8388608 .f32) (harg2 : arg2.IsWhole)
    (arg3 : Memref sig .scVector .hbm S8008 .f32) (harg3 : arg3.IsWhole)
    (arg4 : Memref sig .scVector .hbm S8000 .f32) (harg4 : arg4.IsWhole)
    (arg5 : Memref sig .scVector .hbm S8388608 .f32) (harg5 : arg5.IsWhole)
    (arg6 : Memref sig .scVector .hbm S1048576 .f32) (harg6 : arg6.IsWhole)
    (arg7 : Memref sig .scVector .vmem S8008 .f32) (harg7 : arg7.IsWhole)
    (arg8 : Memref sig .scVector .vmem S8000 .f32) (harg8 : arg8.IsWhole)
    (arg9 : Memref sig .scVector .vmem S16384 .f32) (harg9 : arg9.IsWhole)
    (arg10 : Memref sig .scVector .vmem S16384 .f32) (harg10 : arg10.IsWhole)
    (arg11 : Memref sig .scVector .vmem S2048 .f32) (harg11 : arg11.IsWhole)
    (r0 r1 r2 r3 r4 : DmaSems sig S_) :
    cc0_vegas (F := F) i arg2 harg2 arg3 harg3 arg4 harg4 arg5 harg5 arg6 harg6 arg7 harg7 arg8 harg8 arg9 harg9
        arg10 harg10 arg11 harg11 r0 r1 r2 r3 r4
      = (do
        Prog.lift (.enqueueDma arg3 (.here arg7) (.dma r0.sem) harg3.wordExact harg7.wordExact ⟨Or.inl rfl, trivial⟩)
        Prog.lift (.waitDma2 r0.sem arg3 arg7 harg3.wordExact harg7.wordExact)
        Prog.lift (.enqueueDma arg4 (.here arg8) (.dma r1.sem) harg4.wordExact harg8.wordExact ⟨Or.inl rfl, trivial⟩)
        Prog.lift (.waitDma2 r1.sem arg4 arg8 harg4.wordExact harg8.wordExact)
        Scf.Loop.for k0_t1_loop k0_t1_ok ⟨⟩ fun k0_t1 _ =>
          blockProg i arg2 arg5 arg6 arg7 arg8 arg9 harg9 arg10 harg10 arg11 harg11 r2 r3 r4 k0_t1
        pure ⟨⟩) := rfl

end Cert.KernelIdeal.Vegas
-- ==== Proof.VegasIdeal.Setup.lean ====
module

public import proofs.«01_k».proof.Proof.VegasIdeal.Group
public import proofs.«01_k».proof.Proof.Vegas.Values

@[expose] public section

noncomputable section

namespace Cert.KernelIdeal.Vegas

open Cert.KernelIdeal.Gen Cert.Vegas
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: its semaphores are distinct and unscoped, and no tile's buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A tile and its scratch -/

/-- The thread of the tile at the given coordinates. -/
abbrev tile (d : Dev nD) (i : grid0.Coords) : Thread nD τ := V d ((i 0).castLE hcore0) ((i 1).castLE hsub0)

/-- The tile's copy of the bins' left edges, holding `f`. -/
abbrev edgesPts (d : Dev nD) (i : grid0.Coords) (f : Vec F S8008 .f32) : sProp 𝕄 :=
  (tile d i).loc cc0_scratch0 ↦{fullShare} f
/-- The tile's copy of the bins' widths, holding `f`. -/
abbrev widthsPts (d : Dev nD) (i : grid0.Coords) (f : Vec F S8000 .f32) : sProp 𝕄 :=
  (tile d i).loc cc0_scratch1 ↦{fullShare} f
/-- The tile's block of coordinates, holding `f`. -/
abbrev ysPts (d : Dev nD) (i : grid0.Coords) (f : Vec F S16384 .f32) : sProp 𝕄 :=
  (tile d i).loc cc0_scratch2 ↦{fullShare} f
/-- The tile's block of mapped coordinates, holding `f`. -/
abbrev xsPts (d : Dev nD) (i : grid0.Coords) (f : Vec F S16384 .f32) : sProp 𝕄 :=
  (tile d i).loc cc0_scratch3 ↦{fullShare} f
/-- The tile's block of Jacobians, holding `f`. -/
abbrev jacsPts (d : Dev nD) (i : grid0.Coords) (f : Vec F S2048 .f32) : sProp 𝕄 :=
  (tile d i).loc cc0_scratch4 ↦{fullShare} f

end Cert.KernelIdeal.Vegas

end
-- ==== Proof.VegasIdeal.Step.lean ====
module

public import proofs.«01_k».proof.Proof.VegasIdeal.Setup

@[expose] public section

noncomputable section

namespace Cert.KernelIdeal.Vegas

open Cert.KernelIdeal.Gen Cert.Vegas
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Where the words of a step point -/

/-- A group's loop has 128 trips. -/
theorem trips2 : k0_t2_loop.trips = 128 := by decide

/-- The block loop has 16 trips. -/
theorem trips1 : k0_t1_loop.trips = 16 := by decide

omit [FloatOps F] in
/-- Where a lane's sample starts in the block: sixteen samples of eight coordinates a group. -/
theorem groupBase_toNat (g : Fin k0_t2_loop.trips) (x : S16.Idx) :
    (groupBase g x).toNat = 128 * g.val + 8 * (x 0).val := by
  have hg : g.val < 128 := trips2 ▸ g.isLt
  have hx : (x 0).val < 16 := (x 0).isLt
  simp [groupBase, lanes8, addi, muli, broadcast, iota, IntOp.addi, IntOp.muli, Scalar.muli, Scf.iv]
  omega

omit [FloatOps F] in
/-- A lane's position: its sample's start and the dimension. -/
theorem stepPos_toNat (g : Fin k0_t2_loop.trips) {dd : ℕ} (hd : dd < 8) (x : S16.Idx) :
    (stepPos (groupBase g) dd x).toNat = 128 * g.val + 8 * (x 0).val + dd := by
  have hg : g.val < 128 := trips2 ▸ g.isLt
  have hx : (x 0).val < 16 := (x 0).isLt
  have hb := groupBase_toNat g x
  have hdd : (BitVec.ofNat 32 dd).toNat = dd := by rw [BitVec.toNat_ofNat]; omega
  show (IntOp.addi (groupBase g x) (BitVec.ofNat 32 dd)).toNat = _
  rw [toNat_addi (by omega), hb, hdd]

omit [FloatOps F] in
/-- The positions lie in the block. -/
theorem stepPos_lt (g : Fin k0_t2_loop.trips) {dd : ℕ} (hd : dd < 8) :
    ∀ a x, ((![stepPos (groupBase g) dd] : Fin 1 → IVec S16 32) a x).toNat < S16384.size a := by
  intro a x
  obtain rfl : a = 0 := Fin.eq_zero a
  have hg : g.val < 128 := trips2 ▸ g.isLt
  have hx : (x 0).val < 16 := (x 0).isLt
  show (stepPos (groupBase g) dd x).toNat < 16384
  rw [stepPos_toNat g hd]; omega

/-- A lane's place in a table: its bin, past the entries of the dimensions before. -/
theorem tablePos_toNat (y : FVec F S16 .f32) {w dd : ℕ} (hw : w ≤ 1001) (hd : dd < 8) (x : S16.Idx) :
    (tablePos y w dd x).toNat = bin (y x) + w * dd := by
  have hb : bin (y x) ≤ 999 := bin_le _
  have hm : w * dd ≤ 1001 * 7 := Nat.mul_le_mul hw (by omega)
  have hdd : (BitVec.ofNat 32 (w * dd)).toNat = w * dd := by rw [BitVec.toNat_ofNat]; omega
  show (IntOp.addi (binWord (y x)) (BitVec.ofNat 32 (w * dd))).toNat = _
  have hb' : (binWord (y x)).toNat = bin (y x) := rfl
  rw [toNat_addi (by omega), hdd, hb']

/-- The places lie in a table of `n` entries that holds eight dimensions of `w ≥ 1000` each. -/
theorem tablePos_lt (y : FVec F S16 .f32) {w dd n : ℕ} (hw : w ≤ 1001) (hw' : 1000 ≤ w) (hn : w * 8 ≤ n) (hd : dd < 8) :
    ∀ a x, ((![tablePos y w dd] : Fin 1 → IVec S16 32) a x).toNat < (⟨1, ![n]⟩ : Shape).size a := by
  intro a x
  obtain rfl : a = 0 := Fin.eq_zero a
  have hb : bin (y x) ≤ 999 := bin_le _
  have hm : w * dd + w ≤ w * 8 := by rw [← Nat.mul_succ]; exact Nat.mul_le_mul_left w hd
  show (tablePos y w dd x).toNat < n
  rw [tablePos_toNat y hw hd]; omega

/-! ## One dimension of a group -/

/-- Before dimension `dd` of group `g`: the tables and the coordinates, the mapped coordinates written for the groups
    before and for this group's dimensions before, and the lanes' Jacobians over those dimensions. -/
def stepInv (d : Dev nD) (i : grid0.Coords) (G : Vec F S8008 .f32) (I : Vec F S8000 .f32) (Y : Vec F S16384 .f32)
    (g dd : ℕ) (jac : FVec F S16 .f32) : sProp 𝕄 :=
  iprop(edgesPts d i G ∗ widthsPts d i I ∗ ysPts d i Y
    ∗ (∃ xv : Vec F S16384 .f32,
        ⌜∀ q < 16384, (q / 128 < g ∨ (q / 128 = g ∧ q % 8 < dd)) → rd xv q = xAt (rd G) (rd I) (rd Y) q⌝
        ∗ xsPts d i xv)
    ∗ ⌜∀ x : S16.Idx, jac x = jacAt (rd I) (rd Y) (16 * g + (x 0).val) dd⌝)

/-- What a lane stores: the mapped coordinate at its position. -/
theorem stepVal_eq (G : Vec F S8008 .f32) (I : Vec F S8000 .f32) (Y : Vec F S16384 .f32) (g : Fin k0_t2_loop.trips)
    {dd : ℕ} (hd : dd < 8) (h1 h2 h3) (x : S16.Idx) :
    stepVal (loadIdx Y (![stepPos (groupBase g) dd] : Fin 1 → IVec S16 32) h1)
        (loadIdx G (![tablePos (loadIdx Y (![stepPos (groupBase g) dd] : Fin 1 → IVec S16 32) h1) 1001 dd] : Fin 1 → IVec S16 32) h2)
        (loadIdx I (![tablePos (loadIdx Y (![stepPos (groupBase g) dd] : Fin 1 → IVec S16 32) h1) 1000 dd] : Fin 1 → IVec S16 32) h3) x
      = xAt (rd G) (rd I) (rd Y) (128 * g.val + 8 * (x 0).val + dd) := by
  have hy : loadIdx Y (![stepPos (groupBase g) dd] : Fin 1 → IVec S16 32) h1 x
      = rd Y (128 * g.val + 8 * (x 0).val + dd) := by rw [loadIdx_eq_rd, stepPos_toNat g hd]
  have hm : (128 * g.val + 8 * (x 0).val + dd) % 8 = dd := by omega
  show FloatOps.addf (loadIdx G _ h2 x) (FloatOps.mulf (loadIdx I _ h3 x)
    (FloatOps.subf (scaled (loadIdx Y _ h1 x)) (FloatOps.sitofp .f32 (binWord (loadIdx Y _ h1 x))))) = _
  rw [loadIdx_eq_rd G, loadIdx_eq_rd I, tablePos_toNat _ (by decide) hd, tablePos_toNat _ (by decide) hd, hy, xAt, hm]

/-- The block after a step's store: the invariant at the next dimension. -/
theorem step_x (G : Vec F S8008 .f32) (I : Vec F S8000 .f32) (Y xv : Vec F S16384 .f32) (g : Fin k0_t2_loop.trips)
    {dd : ℕ} (hd : dd < 8) (h1 h2 h3 h4)
    (hxv : ∀ q < 16384, (q / 128 < g.val ∨ (q / 128 = g.val ∧ q % 8 < dd)) → rd xv q = xAt (rd G) (rd I) (rd Y) q) :
    ∀ q < 16384, (q / 128 < g.val ∨ (q / 128 = g.val ∧ q % 8 < dd + 1)) →
      rd (storeIdx xv (![stepPos (groupBase g) dd] : Fin 1 → IVec S16 32)
        (stepVal (loadIdx Y (![stepPos (groupBase g) dd] : Fin 1 → IVec S16 32) h1)
          (loadIdx G (![tablePos (loadIdx Y (![stepPos (groupBase g) dd] : Fin 1 → IVec S16 32) h1) 1001 dd] : Fin 1 → IVec S16 32) h2)
          (loadIdx I (![tablePos (loadIdx Y (![stepPos (groupBase g) dd] : Fin 1 → IVec S16 32) h1) 1000 dd] : Fin 1 → IVec S16 32) h3))
        (fun _ => 1#1) false h4) q = xAt (rd G) (rd I) (rd Y) q := by
  intro q hq hqg
  by_cases hit : q / 128 = g.val ∧ q % 8 = dd
  · have hlane : q % 128 / 8 < 16 := by omega
    refine storeIdx_hit xv _ _ h4 hq (Shape.ofLane (d := ![16]) (⟨q % 128 / 8, hlane⟩ : Fin 16)) ?_ ?_
    · rw [stepPos_toNat g hd]
      show 128 * g.val + 8 * (q % 128 / 8) + dd = q
      omega
    · intro x' hx'
      rw [stepPos_toNat g hd] at hx'
      rw [stepVal_eq G I Y g hd, hx']
  · rw [storeIdx_miss]
    · exact hxv q hq (by omega)
    · intro x hx
      rw [stepPos_toNat g hd] at hx
      have hxl : (x 0).val < 16 := (x 0).isLt
      exact hit (by omega)

/-- The lanes' Jacobians after a step: over one dimension more. -/
theorem step_jac (I : Vec F S8000 .f32) (Y : Vec F S16384 .f32) (g : Fin k0_t2_loop.trips)
    {dd : ℕ} (hd : dd < 8) (jac : FVec F S16 .f32) (h1 h3)
    (hjac : ∀ x : S16.Idx, jac x = jacAt (rd I) (rd Y) (16 * g.val + (x 0).val) dd) :
    ∀ x : S16.Idx, stepJac jac
        (loadIdx I (![tablePos (loadIdx Y (![stepPos (groupBase g) dd] : Fin 1 → IVec S16 32) h1) 1000 dd] : Fin 1 → IVec S16 32) h3) x
      = jacAt (rd I) (rd Y) (16 * g.val + (x 0).val) (dd + 1) := by
  intro x
  have hp : 128 * g.val + 8 * (x 0).val + dd = 8 * (16 * g.val + (x 0).val) + dd := by omega
  have hy : loadIdx Y (![stepPos (groupBase g) dd] : Fin 1 → IVec S16 32) h1 x
      = rd Y (8 * (16 * g.val + (x 0).val) + dd) := by rw [loadIdx_eq_rd, stepPos_toNat g hd, hp]
  show FloatOps.mulf (jac x) (FloatOps.mulf (loadIdx I _ h3 x) (Scalar.ofBits .f32 0x447A0000#32)) = _
  rw [loadIdx_eq_rd I, tablePos_toNat _ (by decide) hd, hy, hjac, jacAt]

/-- The block of mapped coordinates as an indexed store addresses it. -/
theorem xsPts_access (d : Dev nD) (i : grid0.Coords) (f : Vec F S16384 .f32) :
    ((((Memref.whole cc0_scratch3).access (.whole S16384)).loc (tile d i))
        ↦[((Memref.whole cc0_scratch3).access (.whole S16384)).set]{fullShare} f : sProp 𝕄) = xsPts d i f := by
  have h : ((Memref.whole cc0_scratch3).access (.whole S16384)).set = Finset.univ := Memref.set_access_whole cc0_scratch3
  rw [h]

/-- The block of mapped coordinates after an indexed store. -/
theorem xsPts_write (d : Dev nD) (i : grid0.Coords) (f : Vec F S16384 .f32) (p : Fin 1 → IVec S16 32)
    (v : FVec F S16 .f32) (h : ∀ a x, (p a x).toNat < S16384.size a) :
    ((((Memref.whole cc0_scratch3).access (.whole S16384)).loc (tile d i))
        ↦[((Memref.whole cc0_scratch3).access (.whole S16384)).set]{fullShare}
          ((Memref.whole cc0_scratch3).access (.whole S16384)).write (Elt F) f
            (storeIdx (((Memref.whole cc0_scratch3).access (.whole S16384)).read (Elt F) f) p v (fun _ => 1#1) false h)
            Finset.univ : sProp 𝕄)
      = xsPts d i (storeIdx f p v (fun _ => 1#1) false h) := by
  have hr : ((Memref.whole cc0_scratch3).access (.whole S16384)).read (Elt F) f = f :=
    Memref.read_access_whole (Elt F) cc0_scratch3 f
  have hw (w : Vec F S16384 .f32) : ((Memref.whole cc0_scratch3).access (.whole S16384)).write (Elt F) f w Finset.univ = w :=
    Memref.write_access_whole_univ (Elt F) cc0_scratch3 f w
  rw [hr, hw]
  exact xsPts_access d i _

/-- An indexed load, the base memref's contents read as `f'`. -/
theorem wp_gather (thr : Thread nD τ) {s t : Shape} {α : Type} {base : Memref sig thr.2.kind .vmem s .f32} {p : Fin s.rank → IVec t 32}
    {h : ∀ a x, (p a x).toNat < s.size a} {hl : base.view.Loads}
    {k : Vec F t .f32 → Prog (TpuEff nD τ sig (Elt F) Λ₀ thr.2) α} {Q : α → sProp 𝕄}
    (f : Buf (Elt F) ((base.access (.whole s)).loc thr)) (f' : Vec F s .f32)
    (hr : (base.access (.whole s)).read (Elt F) f = f') :
    ((base.access (.whole s)).loc thr ↦{fullShare} f : sProp 𝕄)
      ⊢ iprop((((base.access (.whole s)).loc thr ↦{fullShare} f)
          -∗ wp frame (wpE (defs₀ (F := F)) 𝒱₀ thr none) Set.univ (k (loadIdx f' p h)) Q)
        -∗ wp frame (wpE (defs₀ (F := F)) 𝒱₀ thr none) Set.univ (SparseCore.vectorLoadIdx base p h hl >>= k) Q) := by
  subst hr
  exact SparseCore.wp_vectorLoadIdx 𝒱₀ thr none Set.univ (S := Finset.univ) (Finset.subset_univ _)

/-- One dimension of a group takes the invariant to the next dimension. -/
theorem wp_step (d : Dev nD) (i : grid0.Coords) (G : Vec F S8008 .f32) (I : Vec F S8000 .f32) (Y : Vec F S16384 .f32)
    (g : Fin k0_t2_loop.trips) {dd : ℕ} (hd : dd < 8) (jac : FVec F S16 .f32) :
    stepInv d i G I Y g.val dd jac
      ⊢ wp frame (wpE (defs₀ (F := F)) 𝒱₀ (tile d i) none) Set.univ
          (stepProg i (Memref.whole cc0_scratch0) (Memref.whole cc0_scratch1) (Memref.whole cc0_scratch2)
            (Memref.whole cc0_scratch3) (groupBase g) jac dd)
          (stepInv d i G I Y g.val (dd + 1)) := by
  unfold stepInv stepProg
  iintro ⟨HG, HI, HY, ⟨%xv, %hxv, HX⟩, %hjac⟩
  rw [wp_assume_of _ _ _ _ (show k0_chk1 (stepPos (groupBase g) dd) from stepPos_lt g hd)]
  iapply (wp_gather (tile d i) (base := Memref.whole cc0_scratch2) Y Y (Memref.read_access_whole (Elt F) cc0_scratch2 Y)) $$ HY
  iintro HY
  rw [wp_assume_of _ _ _ _ (show k0_chk2 (tablePos _ 1001 dd) from
    tablePos_lt (n := 8008) _ (by decide) (by decide) (by decide) hd)]
  iapply (wp_gather (tile d i) (base := Memref.whole cc0_scratch0) G G (Memref.read_access_whole (Elt F) cc0_scratch0 G)) $$ HG
  iintro HG
  rw [wp_assume_of _ _ _ _ (show k0_chk3 (tablePos _ 1000 dd) from
    tablePos_lt (n := 8000) _ (by decide) (by decide) (by decide) hd)]
  iapply (wp_gather (tile d i) (base := Memref.whole cc0_scratch1) I I (Memref.read_access_whole (Elt F) cc0_scratch1 I)) $$ HI
  iintro HI
  rw [wp_assume_of _ _ _ _ (show k0_chk4 (stepPos (groupBase g) dd) from stepPos_lt g hd)]
  ihave HX' := (Entails.of_eq (xsPts_access d i xv).symm) $$ HX
  iapply (SparseCore.wp_vectorStoreIdx 𝒱₀ (tile d i) none Set.univ (base := Memref.whole cc0_scratch3)) $$ HX'
  iintro HX'
  ihave HX := (Entails.of_eq (xsPts_write d i xv _ _ _)) $$ HX'
  iapply (le_wp_ret _ _)
  isplitl [HG]; · iexact HG
  isplitl [HI]; · iexact HI
  isplitl [HY]; · iexact HY
  isplitl [HX]
  · iexists _
    isplitr; swap; · iexact HX
    ipureintro
    exact step_x G I Y xv g hd _ _ _ _ hxv
  · ipureintro
    exact step_jac I Y g hd jac _ _ hjac

end Cert.KernelIdeal.Vegas

end
-- ==== Proof.VegasIdeal.Loop.lean ====
module

public import proofs.«01_k».proof.Proof.VegasIdeal.Step
public import Idealize.ShloMosaic.Lib.Pipeline.Value

@[expose] public section

noncomputable section

namespace Cert.KernelIdeal.Vegas

open Cert.KernelIdeal.Gen Cert.Vegas
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## A group of sixteen samples -/

/-- A run of dimensions takes the invariant from its first to past its last. -/
theorem wp_steps (d : Dev nD) (i : grid0.Coords) (G : Vec F S8008 .f32) (I : Vec F S8000 .f32) (Y : Vec F S16384 .f32)
    (g : Fin k0_t2_loop.trips) : ∀ (n dd : ℕ) (_ : dd + n ≤ 8) (jac : FVec F S16 .f32),
    stepInv d i G I Y g.val dd jac
      ⊢ wp frame (wpE (defs₀ (F := F)) 𝒱₀ (tile d i) none) Set.univ
          (List.foldlM (stepProg i (Memref.whole cc0_scratch0) (Memref.whole cc0_scratch1) (Memref.whole cc0_scratch2)
            (Memref.whole cc0_scratch3) (groupBase g)) jac (List.range' dd n))
          (stepInv d i G I Y g.val (dd + n))
  | 0, dd, _, jac => le_wp_ret _ _ _ _ _
  | n + 1, dd, h, jac => by
    rw [List.range'_succ, List.foldlM_cons, wp_bind]
    refine (wp_step d i G I Y g (by omega) jac).trans (wp_mono frame _ _ fun jac' => ?_)
    refine (wp_steps d i G I Y g n (dd + 1) (by omega) jac').trans ?_
    rw [Nat.add_assoc, Nat.add_comm 1 n]

/-- Before group `g`: the tables and the coordinates, and the mapped coordinates and the Jacobians written for the groups
    before. -/
def groupInv (d : Dev nD) (i : grid0.Coords) (G : Vec F S8008 .f32) (I : Vec F S8000 .f32) (Y : Vec F S16384 .f32)
    (g : ℕ) : sProp 𝕄 :=
  iprop(edgesPts d i G ∗ widthsPts d i I ∗ ysPts d i Y
    ∗ (∃ xv : Vec F S16384 .f32, ⌜∀ q < 16384, q / 128 < g → rd xv q = xAt (rd G) (rd I) (rd Y) q⌝ ∗ xsPts d i xv)
    ∗ (∃ jv : Vec F S2048 .f32, ⌜∀ r < 2048, r / 16 < g → rd jv r = jacAt (rd I) (rd Y) r 8⌝ ∗ jacsPts d i jv))

/-- The rectangle of the group's samples in the block of Jacobians. -/
abbrev jacRect (g : Fin k0_t2_loop.trips) : Rect S2048 := Rect.unit (s := S2048) (k0_off2 g) S16.size (k0_off2_inb g)

/-- The block of Jacobians after a group's store: that group's are written too. -/
theorem group_jac (I : Vec F S8000 .f32) (Y : Vec F S16384 .f32) (g : Fin k0_t2_loop.trips) (jv : Vec F S2048 .f32)
    (jac : FVec F S16 .f32) (hjv : ∀ r < 2048, r / 16 < g.val → rd jv r = jacAt (rd I) (rd Y) r 8)
    (hjac : ∀ x : S16.Idx, jac x = jacAt (rd I) (rd Y) (16 * g.val + (x 0).val) 8) :
    ∀ r < 2048, r / 16 < g.val + 1 →
      rd (((View.whole cc0_scratch4).slice (jacRect g)).write (Elt F) jv jac Finset.univ : Vec F S2048 .f32) r
        = jacAt (rd I) (rd Y) r 8 := by
  intro r hr hrg
  have h := View.write_whole_slice_unit (Val := Elt F) cc0_scratch4 (k0_off2 g) S16.size (k0_off2_inb g) jv jac
  have hw : rd (((View.whole cc0_scratch4).slice (jacRect g)).write (Elt F) jv jac Finset.univ : Vec F S2048 .f32) r
      = rd (updateSlice jv jac (k0_off2 g) ⟨rfl, k0_off2_inb g⟩ : Vec F S2048 .f32) r := congrArg (fun f => rd (n := 2048) f r) h
  have hu := rd_updateSlice (n := 2048) (m := 16) jv jac (k0_off2 g) ⟨rfl, k0_off2_inb g⟩ hr
  have ho : k0_off2 g 0 = 16 * g.val := by rw [k0_off2_eq]; rfl
  rw [hw]; refine hu.trans ?_
  rw [ho]
  split
  · rename_i hin
    have hl : r - 16 * g.val < 16 := by omega
    rw [rd, dif_pos hl, hjac]
    show jacAt _ _ (16 * g.val + (r - 16 * g.val)) 8 = _
    rw [show 16 * g.val + (r - 16 * g.val) = r by omega]
  · exact hjv r hr (by omega)

/-- The copy of the bins' left edges as a copy through its memref addresses it. -/
theorem edgesPts_view (d : Dev nD) (i : grid0.Coords) (f : Vec F S8008 .f32) :
    ((Memref.whole cc0_scratch0).view.loc (tile d i) ↦[(Finset.univ : Finset S8008.Idx)]{fullShare} f : sProp 𝕄)
      = edgesPts d i f := rfl

/-- The copy of the bins' widths as a copy through its memref addresses it. -/
theorem widthsPts_view (d : Dev nD) (i : grid0.Coords) (f : Vec F S8000 .f32) :
    ((Memref.whole cc0_scratch1).view.loc (tile d i) ↦[(Finset.univ : Finset S8000.Idx)]{fullShare} f : sProp 𝕄)
      = widthsPts d i f := rfl

/-- The block of coordinates as a copy through its memref addresses it. -/
theorem ysPts_view (d : Dev nD) (i : grid0.Coords) (f : Vec F S16384 .f32) :
    ((Memref.whole cc0_scratch2).view.loc (tile d i) ↦[(Finset.univ : Finset S16384.Idx)]{fullShare} f : sProp 𝕄)
      = ysPts d i f := rfl

/-- The block of mapped coordinates as a copy through its memref addresses it. -/
theorem xsPts_view (d : Dev nD) (i : grid0.Coords) (f : Vec F S16384 .f32) :
    ((Memref.whole cc0_scratch3).view.loc (tile d i) ↦[(Finset.univ : Finset S16384.Idx)]{fullShare} f : sProp 𝕄)
      = xsPts d i f := rfl

/-- The block of Jacobians as a load, a store or a copy through its memref addresses it. -/
theorem jacsPts_view (d : Dev nD) (i : grid0.Coords) (f : Vec F S2048 .f32) :
    ((Memref.whole cc0_scratch4).view.loc (tile d i) ↦[(Finset.univ : Finset S2048.Idx)]{fullShare} f : sProp 𝕄)
      = jacsPts d i f := rfl

/-- The block of Jacobians after a store of one run of it. -/
theorem jacsPts_write (d : Dev nD) (i : grid0.Coords) (g : Fin k0_t2_loop.trips) (f : Vec F S2048 .f32) (w : FVec F S16 .f32) :
    ((Memref.whole cc0_scratch4).view.loc (tile d i) ↦[(Finset.univ : Finset S2048.Idx)]{fullShare}
        (Memref.whole cc0_scratch4).view.writes (Elt F) f [⟨jacRect g, w⟩] : sProp 𝕄)
      = jacsPts d i (((View.whole cc0_scratch4).slice (jacRect g)).write (Elt F) f w Finset.univ) := rfl

/-- A group takes the invariant to the next group. -/
theorem wp_group (d : Dev nD) (i : grid0.Coords) (G : Vec F S8008 .f32) (I : Vec F S8000 .f32) (Y : Vec F S16384 .f32)
    (g : Fin k0_t2_loop.trips) :
    groupInv d i G I Y g.val
      ⊢ wp frame (wpE (defs₀ (F := F)) 𝒱₀ (tile d i) none) Set.univ
          (groupProg i (Memref.whole cc0_scratch0) (Memref.whole cc0_scratch1) (Memref.whole cc0_scratch2)
            (Memref.whole cc0_scratch3) (Memref.whole cc0_scratch4) g)
          (fun _ => groupInv d i G I Y (g.val + 1)) := by
  unfold groupInv groupProg
  iintro ⟨HG, HI, HY, ⟨%xv, %hxv, HX⟩, ⟨%jv, %hjv, HJ⟩⟩
  rw [wp_bind]
  iapply (wp_wand frame (wpE (defs₀ (F := F)) 𝒱₀ (tile d i) none) (Q := stepInv d i G I Y g.val (0 + 8))) $$ [HG HI HY HX]
  · iapply (wp_steps d i G I Y g 8 0 (by decide) _)
    unfold stepInv
    isplitl [HG]; · iexact HG
    isplitl [HI]; · iexact HI
    isplitl [HY]; · iexact HY
    isplitl [HX]
    · iexists xv
      isplitr; swap; · iexact HX
      ipureintro
      intro q hq h
      exact hxv q hq (by omega)
    · ipureintro
      intro x; rfl
  · iintro %jac HS
    unfold stepInv
    icases HS with ⟨HG, HI, HY, ⟨%xv, %hxv, HX⟩, %hjac⟩
    ihave HJ := (Entails.of_eq (jacsPts_view d i jv).symm) $$ HJ
    sl_exec
    ihave HJ := (Entails.of_eq (jacsPts_write d i g jv jac)) $$ HJ
    iapply (le_wp_ret _ _)
    isplitl [HG]; · iexact HG
    isplitl [HI]; · iexact HI
    isplitl [HY]; · iexact HY
    isplitl [HX]
    · iexists xv
      isplitr; swap; · iexact HX
      ipureintro
      intro q hq h
      exact hxv q hq (by omega)
    · iexists _
      isplitr; swap; · iexact HJ
      ipureintro
      exact group_jac I Y g jv jac hjv hjac

end Cert.KernelIdeal.Vegas

end
-- ==== Proof.VegasIdeal.Block.lean ====
module

public import proofs.«01_k».proof.Proof.VegasIdeal.Loop

@[expose] public section

noncomputable section

namespace Cert.KernelIdeal.Vegas

open Cert.KernelIdeal.Gen Cert.Vegas
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The groups of a block -/

/-- The loop over the groups writes the whole block. -/
theorem wp_groups (d : Dev nD) (i : grid0.Coords) (G : Vec F S8008 .f32) (I : Vec F S8000 .f32) (Y : Vec F S16384 .f32) :
    groupInv d i G I Y 0
      ⊢ wp frame (wpE (defs₀ (F := F)) 𝒱₀ (tile d i) none) Set.univ
          (Scf.Loop.for k0_t2_loop k0_t2_ok (⟨⟩ : PUnit) fun g _ =>
            groupProg (F := F) i (Memref.whole cc0_scratch0) (Memref.whole cc0_scratch1) (Memref.whole cc0_scratch2)
              (Memref.whole cc0_scratch3) (Memref.whole cc0_scratch4) g)
          (fun _ => groupInv d i G I Y 128) := by
  have h := Scf.wp_for frame (wpE (defs₀ (F := F)) 𝒱₀ (tile d i) none) Set.univ k0_t2_loop.lb k0_t2_loop.ub k0_t2_loop.st
    k0_t2_ok (⟨⟩ : PUnit) (fun g _ =>
      groupProg (F := F) i (Memref.whole cc0_scratch0) (Memref.whole cc0_scratch1) (Memref.whole cc0_scratch2)
        (Memref.whole cc0_scratch3) (Memref.whole cc0_scratch4) g) (fun g _ => groupInv d i G I Y g)
    (fun g _ => wp_group d i G I Y g) (Q := fun _ => groupInv d i G I Y 128)
  have h2 : Scf.trips k0_t2_loop.lb k0_t2_loop.ub k0_t2_loop.st = 128 := trips2
  iintro H
  iapply h
  isplitl [H]; · iexact H
  iintro %_ H
  ihave H := (Entails.of_eq (congrArg (groupInv d i G I Y) h2)) $$ H
  iexact H

/-! ## The arrays a block moves -/

/-- The block's coordinates in the array of coordinates. -/
abbrev yMem (i : grid0.Coords) (t : Fin k0_t1_loop.trips) : Memref sig .scVector .hbm S16384 .f32 :=
  (Memref.whole main_v0_scv).slice (Rect.unit (s := S8388608) (k0_off1 i t) S16384.size (k0_off1_inb i t)) (fun _ => rfl)
/-- The block's place in the array of mapped coordinates. -/
abbrev xMem (i : grid0.Coords) (t : Fin k0_t1_loop.trips) : Memref sig .scVector .hbm S16384 .f32 :=
  (Memref.whole main_v3_0_scv).slice (Rect.unit (s := S8388608) (k0_off1 i t) S16384.size (k0_off1_inb i t)) (fun _ => rfl)
/-- The block's place in the array of Jacobians. -/
abbrev jMem (i : grid0.Coords) (t : Fin k0_t1_loop.trips) : Memref sig .scVector .hbm S2048 .f32 :=
  (Memref.whole main_v3_1_scv).slice (Rect.unit (s := S1048576) (k0_off3 i t) S2048.size (k0_off3_inb i t)) (fun _ => rfl)

/-- The block's mapped coordinates and Jacobians, holding what `fx` and `fj` hold there. -/
abbrev outPts (d : Dev nD) (i : grid0.Coords) (t : Fin k0_t1_loop.trips) (fx : Vec F S8388608 .f32) (fj : Vec F S1048576 .f32) :
    sProp 𝕄 :=
  iprop(((xMem i t).view.loc (tile d i) ↦[(xMem i t).view.set]{fullShare} fx)
    ∗ ((jMem i t).view.loc (tile d i) ↦[(jMem i t).view.set]{fullShare} fj))

/-- All the mapped coordinates, the tables and the coordinates flat. -/
def outX (G : Vec F S8008 .f32) (I : Vec F S8000 .f32) (y : Vec F S8388608 .f32) : Vec F S8388608 .f32 :=
  flat 8388608 (xAt (rd G) (rd I) (rd y))

/-- All the Jacobians, the widths and the coordinates flat. -/
def outJ (I : Vec F S8000 .f32) (y : Vec F S8388608 .f32) : Vec F S1048576 .f32 :=
  flat 1048576 fun r => jacAt (rd I) (rd y) r 8

/-- A block's coordinates. -/
abbrev blockY (i : grid0.Coords) (t : Fin k0_t1_loop.trips) (y : Vec F S8388608 .f32) : Vec F S16384 .f32 :=
  (yMem i t).view.read (Elt F) y

omit [FloatOps F] in
/-- Where a block starts among the samples. -/
theorem off3_eq (i : grid0.Coords) (t : Fin k0_t1_loop.trips) :
    k0_off3 i t 0 = 65536 * (i 1).val + 32768 * (i 0).val + 2048 * t.val := by rw [k0_off3_eq]; rfl

omit [FloatOps F] in
/-- Where a block starts among the coordinates: eight a sample. -/
theorem off1_eq (i : grid0.Coords) (t : Fin k0_t1_loop.trips) : k0_off1 i t 0 = 8 * k0_off3 i t 0 := by
  rw [off3_eq, k0_off1_eq]
  show 524288 * (i 1).val + 262144 * (i 0).val + 16384 * t.val = _
  omega

/-- A block's coordinate is the array's at the block's start past it. -/
theorem rd_blockY (i : grid0.Coords) (t : Fin k0_t1_loop.trips) (y : Vec F S8388608 .f32) {k : ℕ} (hk : k < 16384) :
    rd (blockY i t y) k = rd y (8 * k0_off3 i t 0 + k) := by
  rw [rd, dif_pos hk, ← off1_eq]
  refine apply_eq_rd y ((Rect.unit (s := S8388608) (k0_off1 i t) S16384.size (k0_off1_inb i t)).emb
    (Shape.ofLane (d := ![16384]) (⟨k, hk⟩ : Fin 16384))) _ ?_
  rw [Rect.emb_apply]
  show k0_off1 i t 0 + 1 * k = _
  omega

/-- The mapped coordinates of a block, copied out, are the array's there. -/
theorem block_x (d : Dev nD) (i : grid0.Coords) (G : Vec F S8008 .f32) (I : Vec F S8000 .f32) (y : Vec F S8388608 .f32)
    (t : Fin k0_t1_loop.trips) (fx : Vec F S8388608 .f32) (xv : Vec F S16384 .f32)
    (hxv : ∀ q < 16384, q / 128 < 128 → rd xv q = xAt (rd G) (rd I) (rd (blockY i t y)) q) :
    ((xMem i t).view.loc (tile d i) ↦[(xMem i t).view.set]{fullShare} (xMem i t).view.writes (Elt F) fx [⟨Rect.whole S16384, xv⟩] : sProp 𝕄)
      = ((xMem i t).view.loc (tile d i) ↦[(xMem i t).view.set]{fullShare} outX G I y) := by
  refine pointsTo_congr fun j hj => ?_
  obtain ⟨x, -, rfl⟩ := Finset.mem_map.mp hj
  refine ((congrArg (View.write (Elt F) ((xMem i t).view.slice (Rect.whole S16384)) fx xv Finset.univ)
    (congrArg (xMem i t).view.emb (Rect.emb_whole_apply S16384 x)).symm).trans
      (View.write_emb_of_mem (v := (xMem i t).view.slice (Rect.whole S16384)) fx xv (Finset.mem_univ x))).trans ?_
  have hx : (x 0).val < 16384 := (x 0).isLt
  have he : (((xMem i t).view.emb x : S8388608.Idx) 0).val = 8 * k0_off3 i t 0 + (x 0).val := by
    rw [← off1_eq]
    show k0_off1 i t 0 + 1 * (x 0).val = _
    omega
  show xv x = xAt (rd G) (rd I) (rd y) (((xMem i t).view.emb x : S8388608.Idx) 0).val
  rw [he, apply_eq_rd xv x _ rfl, hxv _ hx (by omega), ← xAt_shift _ _ _ _ _ (by omega)]
  exact xAt_congr _ _ (rd_blockY i t y hx)

/-- The Jacobians of a block, copied out, are the array's there. -/
theorem block_j (d : Dev nD) (i : grid0.Coords) (I : Vec F S8000 .f32) (y : Vec F S8388608 .f32)
    (t : Fin k0_t1_loop.trips) (fj : Vec F S1048576 .f32) (jv : Vec F S2048 .f32)
    (hjv : ∀ r < 2048, r / 16 < 128 → rd jv r = jacAt (rd I) (rd (blockY i t y)) r 8) :
    ((jMem i t).view.loc (tile d i) ↦[(jMem i t).view.set]{fullShare} (jMem i t).view.writes (Elt F) fj [⟨Rect.whole S2048, jv⟩] : sProp 𝕄)
      = ((jMem i t).view.loc (tile d i) ↦[(jMem i t).view.set]{fullShare} outJ I y) := by
  refine pointsTo_congr fun j hj => ?_
  obtain ⟨x, -, rfl⟩ := Finset.mem_map.mp hj
  refine ((congrArg (View.write (Elt F) ((jMem i t).view.slice (Rect.whole S2048)) fj jv Finset.univ)
    (congrArg (jMem i t).view.emb (Rect.emb_whole_apply S2048 x)).symm).trans
      (View.write_emb_of_mem (v := (jMem i t).view.slice (Rect.whole S2048)) fj jv (Finset.mem_univ x))).trans ?_
  have hx : (x 0).val < 2048 := (x 0).isLt
  have he : (((jMem i t).view.emb x : S1048576.Idx) 0).val = k0_off3 i t 0 + (x 0).val := by
    show k0_off3 i t 0 + 1 * (x 0).val = _
    omega
  show jv x = jacAt (rd I) (rd y) (((jMem i t).view.emb x : S1048576.Idx) 0).val 8
  rw [he, apply_eq_rd jv x _ rfl, hjv _ hx (by omega), ← jacAt_shift]
  exact jacAt_congr _ 8 le_rfl fun k hk => rd_blockY i t y (by omega)

/-- A block's coordinates, copied in. -/
theorem ysPts_copied (d : Dev nD) (i : grid0.Coords) (f w w' : Vec F S16384 .f32) (hw : w = w') :
    ((Memref.whole cc0_scratch2).view.loc (tile d i) ↦[(Finset.univ : Finset S16384.Idx)]{fullShare}
        View.write (Elt F) (Memref.whole cc0_scratch2).view f w Finset.univ : sProp 𝕄)
      = ysPts d i w' := by
  subst hw
  have h : View.write (Elt F) (Memref.whole cc0_scratch2).view f w Finset.univ = w := View.write_whole_univ cc0_scratch2 f w
  rw [h]

/-- What a tile holds between blocks: the tables in its scratch, its share of the coordinates, its scratch blocks, the
    copies' counters at zero and what it owes. -/
def tileInv (d : Dev nD) (i : grid0.Coords) (G : Vec F S8008 .f32) (I : Vec F S8000 .f32) (y : Vec F S8388608 .f32)
    (q : PosShare TreeShare) (O : CellTallies nD τ sig (HIx 1)) (W : Waits sig (HIx 1)) : sProp 𝕄 :=
  iprop(Transfers.MayWaits (tile d i) (none : HIx 1) O
    ∗ edgesPts d i G ∗ widthsPts d i I
    ∗ ((Memref.whole main_v0_scv).view.loc (tile d i) ↦{q} y)
    ∗ (∃ Y, ysPts d i Y) ∗ (∃ xv, xsPts d i xv) ∗ (∃ jv, jacsPts d i jv)
    ∗ semVal (tile d i, SemLoc.dma cc0_scoped2.sem) 0
    ∗ semVal (tile d i, SemLoc.dma cc0_scoped3.sem) 0
    ∗ semVal (tile d i, SemLoc.dma cc0_scoped4.sem) 0
    ∗ ∃ W', ⌜∀ p ∈ W', p ∈ W ∨ p.2 = none⌝ ∗ owes (tile d i) O W')

/-- A block's run writes its mapped coordinates and Jacobians. -/
theorem wp_block (d : Dev nD) (i : grid0.Coords) (G : Vec F S8008 .f32) (I : Vec F S8000 .f32) (y : Vec F S8388608 .f32)
    (q : PosShare TreeShare) (O : CellTallies nD τ sig (HIx 1)) (W : Waits sig (HIx 1)) (t : Fin k0_t1_loop.trips)
    (fx : Vec F S8388608 .f32) (fj : Vec F S1048576 .f32) :
    iprop(tileInv d i G I y q O W ∗ outPts d i t fx fj)
      ⊢ wp frame (wpE (defs₀ (F := F)) 𝒱₀ (tile d i) none) Set.univ
          (blockProg (F := F) i (Memref.whole main_v0_scv) (Memref.whole main_v3_0_scv) (Memref.whole main_v3_1_scv)
            (Memref.whole cc0_scratch0) (Memref.whole cc0_scratch1)
            (Memref.whole cc0_scratch2) (Memref.isWhole_whole _) (Memref.whole cc0_scratch3) (Memref.isWhole_whole _)
            (Memref.whole cc0_scratch4) (Memref.isWhole_whole _) cc0_scoped2 cc0_scoped3 cc0_scoped4 t)
          (fun _ => iprop(tileInv d i G I y q O W ∗ outPts d i t (outX G I y) (outJ I y))) := by
  unfold tileInv blockProg
  iintro ⟨⟨Hmw, HG, HI, Hy, ⟨%Y, HY⟩, ⟨%xv, HX⟩, ⟨%jv, HJ⟩, Hs2, Hs3, Hs4, %W', %hW', HO⟩, Hx, Hj⟩
  ihave HY := (Entails.of_eq (ysPts_view d i Y).symm) $$ HY
  sl_exec (disch := exact View.amount_pos _ _ (show 0 < S16384.numel by decide))
  ihave HY := (Entails.of_eq (ysPts_copied d i Y (wp_block.sl.dma0 i y t) (blockY i t y) rfl)) $$ HY
  rw [wp_bind]
  iapply (wp_wand frame (wpE (defs₀ (F := F)) 𝒱₀ (tile d i) none) (Q := fun _ => groupInv d i G I (blockY i t y) 128)) $$ [HG HI HY HX HJ]
  · iapply (wp_groups d i G I (blockY i t y))
    unfold groupInv
    isplitl [HG]; · iexact HG
    isplitl [HI]; · iexact HI
    isplitl [HY]; · iexact HY
    isplitl [HX]
    · iexists xv
      isplitr; swap; · iexact HX
      ipureintro
      exact fun _ _ h => absurd h (Nat.not_lt_zero _)
    · iexists jv
      isplitr; swap; · iexact HJ
      ipureintro
      exact fun _ _ h => absurd h (Nat.not_lt_zero _)
  iintro %_ HL
  unfold groupInv
  icases HL with ⟨HG, HI, HY, ⟨%xv', %hxv, HX⟩, ⟨%jv', %hjv, HJ⟩⟩
  ihave HX := (Entails.of_eq (xsPts_view d i xv').symm) $$ HX
  ihave HJ := (Entails.of_eq (jacsPts_view d i jv').symm) $$ HJ
  sl_exec (disch := first | exact View.amount_pos _ _ (show 0 < S16384.numel by decide) | exact View.amount_pos _ _ (show 0 < S2048.numel by decide))
  have e1 : wp_block.sl.dma0_1 xv' = xv' := rfl
  have e2 : wp_block.sl.dma0_2 jv' = jv' := rfl
  rw [e1, e2]
  ihave Hx := (Entails.of_eq (block_x d i G I y t fx xv' hxv)) $$ Hx
  ihave Hj := (Entails.of_eq (block_j d i I y t fj jv' hjv)) $$ Hj
  iapply (le_wp_ret _ _)
  isplitr [Hx Hj]
  · isplitl [Hmw]; · iexact Hmw
    isplitl [HG]; · iexact HG
    isplitl [HI]; · iexact HI
    isplitl [Hy]; · iexact Hy
    isplitl [HY]; · iexists _; iexact HY
    isplitl [HX]; · iexists _; iapply (Entails.of_eq (xsPts_view d i xv')); iexact HX
    isplitl [HJ]; · iexists _; iapply (Entails.of_eq (jacsPts_view d i jv')); iexact HJ
    isplitl [Hs2]; · iexact Hs2
    isplitl [Hs3]; · iexact Hs3
    isplitl [Hs4]; · iexact Hs4
    iexists _; isplitr; swap; · iexact HO
    ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW' p hp
  · isplitl [Hx]; · iexact Hx
    iexact Hj

end Cert.KernelIdeal.Vegas

end
-- ==== Proof.VegasIdeal.Tile.lean ====
module

public import proofs.«01_k».proof.Proof.VegasIdeal.Block

@[expose] public section

noncomputable section

namespace Cert.KernelIdeal.Vegas

open Cert.KernelIdeal.Gen Cert.Vegas
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The blocks of a tile -/

/-- The tile's blocks of the two results, each holding what the arrays hold there. -/
def tileOut (d : Dev nD) (i : grid0.Coords) (fx : Vec F S8388608 .f32) (fj : Vec F S1048576 .f32) : sProp 𝕄 :=
  bigSep Finset.univ fun t : Fin k0_t1_loop.trips => outPts d i t fx fj

/-- The tile's blocks, the first `n` of them written. -/
def blocksAt (d : Dev nD) (i : grid0.Coords) (fx X : Vec F S8388608 .f32) (fj J : Vec F S1048576 .f32) (n : ℕ) : sProp 𝕄 :=
  bigSep Finset.univ fun t : Fin k0_t1_loop.trips =>
    outPts d i t (if t.val < n then X else fx) (if t.val < n then J else fj)

/-- Before any block is written the blocks are as they came. -/
theorem blocksAt_zero (d : Dev nD) (i : grid0.Coords) (fx X : Vec F S8388608 .f32) (fj J : Vec F S1048576 .f32) :
    (blocksAt d i fx X fj J 0 : sProp 𝕄) = tileOut d i fx fj := rfl

/-- After the last block all are written. -/
theorem blocksAt_all (d : Dev nD) (i : grid0.Coords) (fx X : Vec F S8388608 .f32) (fj J : Vec F S1048576 .f32) :
    (blocksAt d i fx X fj J 16 : sProp 𝕄) = tileOut d i X J := by
  unfold blocksAt tileOut
  refine bigSep_congr fun t _ => ?_
  have h : t.val < 16 := trips1 ▸ t.isLt
  rw [if_pos h, if_pos h]

/-- The blocks before block `t`: it as it came, and the others. -/
theorem blocksAt_take (d : Dev nD) (i : grid0.Coords) (fx X : Vec F S8388608 .f32) (fj J : Vec F S1048576 .f32)
    (t : Fin k0_t1_loop.trips) :
    (blocksAt d i fx X fj J t.val : sProp 𝕄)
      = iprop(outPts d i t fx fj ∗ bigSep (Finset.univ.erase t) fun k : Fin k0_t1_loop.trips =>
          outPts d i k (if k.val < t.val then X else fx) (if k.val < t.val then J else fj)) := by
  unfold blocksAt
  rw [SparseCore.bigSep_erase' (Finset.mem_univ t), if_neg (lt_irrefl _), if_neg (lt_irrefl _)]

/-- The blocks after block `t`: it written, and the others as before. -/
theorem blocksAt_put (d : Dev nD) (i : grid0.Coords) (fx X : Vec F S8388608 .f32) (fj J : Vec F S1048576 .f32)
    (t : Fin k0_t1_loop.trips) :
    (blocksAt d i fx X fj J (t.val + 1) : sProp 𝕄)
      = iprop(outPts d i t X J ∗ bigSep (Finset.univ.erase t) fun k : Fin k0_t1_loop.trips =>
          outPts d i k (if k.val < t.val then X else fx) (if k.val < t.val then J else fj)) := by
  unfold blocksAt
  rw [SparseCore.bigSep_erase' (Finset.mem_univ t), if_pos (Nat.lt_succ_self _), if_pos (Nat.lt_succ_self _)]
  refine congrArg (fun R => iprop(outPts d i t X J ∗ R)) (bigSep_congr fun k hk => ?_)
  have hne : k.val ≠ t.val := fun e => Finset.ne_of_mem_erase hk (Fin.ext e)
  have hiff : k.val < t.val + 1 ↔ k.val < t.val := by omega
  rw [if_congr hiff rfl rfl, if_congr hiff rfl rfl]

/-- The loop over the blocks writes them all. -/
theorem wp_blocks (d : Dev nD) (i : grid0.Coords) (G : Vec F S8008 .f32) (I : Vec F S8000 .f32) (y : Vec F S8388608 .f32)
    (q : PosShare TreeShare) (O : CellTallies nD τ sig (HIx 1)) (W : Waits sig (HIx 1))
    (fx : Vec F S8388608 .f32) (fj : Vec F S1048576 .f32) :
    iprop(tileInv d i G I y q O W ∗ tileOut d i fx fj)
      ⊢ wp frame (wpE (defs₀ (F := F)) 𝒱₀ (tile d i) none) Set.univ
          (Scf.Loop.for k0_t1_loop k0_t1_ok (⟨⟩ : PUnit) fun t _ =>
            blockProg (F := F) i (Memref.whole main_v0_scv) (Memref.whole main_v3_0_scv) (Memref.whole main_v3_1_scv)
              (Memref.whole cc0_scratch0) (Memref.whole cc0_scratch1)
              (Memref.whole cc0_scratch2) (Memref.isWhole_whole _) (Memref.whole cc0_scratch3) (Memref.isWhole_whole _)
              (Memref.whole cc0_scratch4) (Memref.isWhole_whole _) cc0_scoped2 cc0_scoped3 cc0_scoped4 t)
          (fun _ => iprop(tileInv d i G I y q O W ∗ tileOut d i (outX G I y) (outJ I y))) := by
  have h := Scf.wp_for frame (wpE (defs₀ (F := F)) 𝒱₀ (tile d i) none) Set.univ k0_t1_loop.lb k0_t1_loop.ub k0_t1_loop.st
    k0_t1_ok (⟨⟩ : PUnit) (fun t _ =>
      blockProg (F := F) i (Memref.whole main_v0_scv) (Memref.whole main_v3_0_scv) (Memref.whole main_v3_1_scv)
        (Memref.whole cc0_scratch0) (Memref.whole cc0_scratch1)
        (Memref.whole cc0_scratch2) (Memref.isWhole_whole _) (Memref.whole cc0_scratch3) (Memref.isWhole_whole _)
        (Memref.whole cc0_scratch4) (Memref.isWhole_whole _) cc0_scoped2 cc0_scoped3 cc0_scoped4 t)
    (fun n _ => iprop(tileInv d i G I y q O W ∗ blocksAt d i fx (outX G I y) fj (outJ I y) n))
    (fun t _ => by
      rw [blocksAt_take, blocksAt_put]
      iintro ⟨HT, Hb, Hr⟩
      iapply (wp_wand frame (wpE (defs₀ (F := F)) 𝒱₀ (tile d i) none)
        (Q := fun _ => iprop(tileInv d i G I y q O W ∗ outPts d i t (outX G I y) (outJ I y)))) $$ [HT Hb]
      · iapply (wp_block d i G I y q O W t fx fj)
        isplitl [HT]; · iexact HT
        iexact Hb
      iintro %_ HQ
      icases HQ with ⟨HT, Hb⟩
      isplitl [HT]; · iexact HT
      isplitl [Hb]; · iexact Hb
      iexact Hr)
    (Q := fun _ => iprop(tileInv d i G I y q O W ∗ tileOut d i (outX G I y) (outJ I y)))
  have h2 : Scf.trips k0_t1_loop.lb k0_t1_loop.ub k0_t1_loop.st = 16 := trips1
  iintro H
  iapply h
  isplitl [H]; · iexact H
  iintro %_ H
  ihave H := (Entails.of_eq (congrArg (fun n => iprop(tileInv d i G I y q O W ∗ blocksAt d i fx (outX G I y) fj (outJ I y) n)) h2)) $$ H
  ihave H := (Entails.of_eq (congrArg (fun R => iprop(tileInv d i G I y q O W ∗ R)) (blocksAt_all d i fx (outX G I y) fj (outJ I y)))) $$ H
  iexact H

/-! ## A tile's own semaphores and scratch -/

/-- A tile's semaphore. -/
abbrev dmaCell (d : Dev nD) (i : grid0.Coords) (s : DmaSem sig) : GSem nD τ sig := (tile d i, SemLoc.dma s)

/-- The five semaphores of the kernel's copies. -/
def dmaCells (d : Dev nD) (i : grid0.Coords) : Finset (GSem nD τ sig) :=
  {dmaCell d i cc0_scoped0.sem, dmaCell d i cc0_scoped1.sem, dmaCell d i cc0_scoped2.sem, dmaCell d i cc0_scoped3.sem,
    dmaCell d i cc0_scoped4.sem}

omit [FloatOps F] in
/-- Two semaphores of a tile are two cells. -/
theorem dmaCell_ne (d : Dev nD) (i : grid0.Coords) {s s' : DmaSem sig} (h : s ≠ s') : dmaCell d i s ≠ dmaCell d i s' :=
  fun e => h (SemLoc.dma.inj (Prod.mk.inj e).2)

omit [FloatOps F] in
/-- The tile's own semaphores at zero: the five of the copies, and the rest. -/
theorem ownSems0_tile (d : Dev nD) (i : grid0.Coords) :
    (ownSems0 (tile d i) : sProp 𝕄)
      = iprop((semVal (dmaCell d i cc0_scoped0.sem) 0 ∗ semVal (dmaCell d i cc0_scoped1.sem) 0
          ∗ semVal (dmaCell d i cc0_scoped2.sem) 0 ∗ semVal (dmaCell d i cc0_scoped3.sem) 0
          ∗ semVal (dmaCell d i cc0_scoped4.sem) 0)
        ∗ bigSep (ownCells (tile d i) \ dmaCells d i) fun g => semVal g 0) := by
  have hsub : dmaCells d i ⊆ ownCells (tile d i) := by
    intro g hg
    simp only [dmaCells, Finset.mem_insert, Finset.mem_singleton] at hg
    rcases hg with rfl | rfl | rfl | rfl | rfl <;> refine mem_ownCells.mpr ⟨rfl, ?_⟩
    · show (SemLoc.dma cc0_scoped0.sem : SemLoc sig).isScoped .scVector = true; decide
    · show (SemLoc.dma cc0_scoped1.sem : SemLoc sig).isScoped .scVector = true; decide
    · show (SemLoc.dma cc0_scoped2.sem : SemLoc sig).isScoped .scVector = true; decide
    · show (SemLoc.dma cc0_scoped3.sem : SemLoc sig).isScoped .scVector = true; decide
    · show (SemLoc.dma cc0_scoped4.sem : SemLoc sig).isScoped .scVector = true; decide
  unfold SparseCore.Cfg.ownSems0
  rw [SparseCore.bigSep_sdiff_split' hsub]
  congr 1
  unfold dmaCells
  rw [SparseCore.bigSep_insert' (by simp only [Finset.mem_insert, Finset.mem_singleton, not_or]; exact
      ⟨dmaCell_ne d i (by decide), dmaCell_ne d i (by decide), dmaCell_ne d i (by decide), dmaCell_ne d i (by decide)⟩),
    SparseCore.bigSep_insert' (by simp only [Finset.mem_insert, Finset.mem_singleton, not_or]; exact
      ⟨dmaCell_ne d i (by decide), dmaCell_ne d i (by decide), dmaCell_ne d i (by decide)⟩),
    SparseCore.bigSep_insert' (by simp only [Finset.mem_insert, Finset.mem_singleton, not_or]; exact
      ⟨dmaCell_ne d i (by decide), dmaCell_ne d i (by decide)⟩),
    SparseCore.bigSep_insert' (by simp only [Finset.mem_singleton]; exact dmaCell_ne d i (by decide)), bigSep_singleton]

/-- A tile's scratch buffer. -/
abbrev scratchRef (i : grid0.Coords) (b : Ref sig .scVector) : DevRef τ sig :=
  (Proc.scVector ((i 0).castLE hcore0) ((i 1).castLE hsub0)).devRef b

/-- The kernel's five scratch buffers. -/
def scratchRefs (i : grid0.Coords) : Finset (DevRef τ sig) :=
  {scratchRef i cc0_scratch0, scratchRef i cc0_scratch1, scratchRef i cc0_scratch2, scratchRef i cc0_scratch3, scratchRef i cc0_scratch4}

omit [FloatOps F] in
/-- Two scratch buffers of a tile are two buffers. -/
theorem scratchRef_ne (i : grid0.Coords) {b b' : Ref sig .scVector} (h : b ≠ b') : scratchRef i b ≠ scratchRef i b' :=
  fun e => h (Proc.devRef_injective _ e)

omit [FloatOps F] in
/-- The tile's own buffers at some contents: the five scratch buffers, and the rest. -/
theorem ownBufs_tile (d : Dev nD) (i : grid0.Coords) :
    (ownBufs (tile d i) : sProp 𝕄)
      = iprop(((∃ f, edgesPts d i f) ∗ (∃ f, widthsPts d i f) ∗ (∃ f, ysPts d i f) ∗ (∃ f, xsPts d i f) ∗ (∃ f, jacsPts d i f))
        ∗ bigSep (ownRefs (τ := τ) (.scVector ((i 0).castLE hcore0) ((i 1).castLE hsub0)) \ scratchRefs i)
            fun b => iprop(∃ f, ((d, b) : Loc nD τ sig) ↦{fullShare} f)) := by
  have hsub : scratchRefs i ⊆ ownRefs (τ := τ) (.scVector ((i 0).castLE hcore0) ((i 1).castLE hsub0)) := by
    intro g hg
    simp only [scratchRefs, Finset.mem_insert, Finset.mem_singleton] at hg
    rcases hg with rfl | rfl | rfl | rfl | rfl <;> exact SparseCore.Cfg.mem_ownRefs_of_owner rfl
  unfold SparseCore.Cfg.ownBufs
  rw [SparseCore.bigSep_sdiff_split' hsub]
  congr 1
  unfold scratchRefs
  rw [SparseCore.bigSep_insert' (by simp only [Finset.mem_insert, Finset.mem_singleton, not_or]; exact
      ⟨scratchRef_ne i (by decide), scratchRef_ne i (by decide), scratchRef_ne i (by decide), scratchRef_ne i (by decide)⟩),
    SparseCore.bigSep_insert' (by simp only [Finset.mem_insert, Finset.mem_singleton, not_or]; exact
      ⟨scratchRef_ne i (by decide), scratchRef_ne i (by decide), scratchRef_ne i (by decide)⟩),
    SparseCore.bigSep_insert' (by simp only [Finset.mem_insert, Finset.mem_singleton, not_or]; exact
      ⟨scratchRef_ne i (by decide), scratchRef_ne i (by decide)⟩),
    SparseCore.bigSep_insert' (by simp only [Finset.mem_singleton]; exact scratchRef_ne i (by decide)), bigSep_singleton]
  rfl

/-! ## The tile's run -/

/-- The bins' left edges, copied in. -/
theorem edgesPts_copied (d : Dev nD) (i : grid0.Coords) (f w w' : Vec F S8008 .f32) (hw : w = w') :
    ((Memref.whole cc0_scratch0).view.loc (tile d i) ↦[(Finset.univ : Finset S8008.Idx)]{fullShare}
        View.write (Elt F) (Memref.whole cc0_scratch0).view f w Finset.univ : sProp 𝕄)
      = edgesPts d i w' := by
  subst hw
  have h : View.write (Elt F) (Memref.whole cc0_scratch0).view f w Finset.univ = w := View.write_whole_univ cc0_scratch0 f w
  rw [h]

/-- The bins' widths, copied in. -/
theorem widthsPts_copied (d : Dev nD) (i : grid0.Coords) (f w w' : Vec F S8000 .f32) (hw : w = w') :
    ((Memref.whole cc0_scratch1).view.loc (tile d i) ↦[(Finset.univ : Finset S8000.Idx)]{fullShare}
        View.write (Elt F) (Memref.whole cc0_scratch1).view f w Finset.univ : sProp 𝕄)
      = widthsPts d i w' := by
  subst hw
  have h : View.write (Elt F) (Memref.whole cc0_scratch1).view f w Finset.univ = w := View.write_whole_univ cc0_scratch1 f w
  rw [h]

/-- What a tile is handed: its shares of the coordinates and of the two tables, and its blocks of the two results. -/
def taskIn (d : Dev nD) (i : grid0.Coords) (q : PosShare TreeShare) (G : Vec F S8008 .f32) (I : Vec F S8000 .f32)
    (y : Vec F S8388608 .f32) (fx : Vec F S8388608 .f32) (fj : Vec F S1048576 .f32) : sProp 𝕄 :=
  iprop(((Memref.whole main_v0_scv).view.loc (tile d i) ↦{q} y)
    ∗ ((Memref.whole main_v1_scv).view.loc (tile d i) ↦{q} G)
    ∗ ((Memref.whole main_v2_scv).view.loc (tile d i) ↦{q} I)
    ∗ tileOut d i fx fj)

/-- The kernel on a tile writes its blocks of the two results. -/
theorem tile_body (hF : (K (F := F)).Facts) (d : Dev nD) (i : grid0.Coords) (q : PosShare TreeShare) (G : Vec F S8008 .f32)
    (I : Vec F S8000 .f32) (y : Vec F S8388608 .f32) (fx : Vec F S8388608 .f32) (fj : Vec F S1048576 .f32)
    (O : CellTallies nD τ sig (HIx 1)) (W : Waits sig (HIx 1)) (hO : ∀ g, O g none = 0) :
    iprop(levAts (K (F := F)).L (K (F := F)).lev ∗ emp ∗ taskIn d i q G I y fx fj
        ∗ scopedBufs (tile d i) ∗ scopedSems0 (tile d i) ∗ owes (tile d i) O W)
      ⊢ wp frame (wpE (defs₀ (F := F)) 𝒱₀ (tile d i) none) Set.univ
          (cc0_vegas (F := F) i (Memref.whole main_v0_scv) (Memref.isWhole_whole _) (Memref.whole main_v1_scv) (Memref.isWhole_whole _)
            (Memref.whole main_v2_scv) (Memref.isWhole_whole _) (Memref.whole main_v3_0_scv) (Memref.isWhole_whole _)
            (Memref.whole main_v3_1_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scoped0 cc0_scoped1 cc0_scoped2 cc0_scoped3 cc0_scoped4)
          fun _ => iprop(tileOut d i (outX G I y) (outJ I y) ∗ scopedBufs (tile d i) ∗ scopedSems0 (tile d i)
            ∗ ∃ W', ⌜∀ p ∈ W', p ∈ W ∨ p.2 = none⌝ ∗ owes (tile d i) O W') := by
  rw [cc0_vegas_eq, (K (F := F)).scopedBufs_V hF d _ _, SparseCore.Cfg.scopedSems0_V (Val := Elt F) d _ _, ownSems0_tile, ownBufs_tile]
  unfold taskIn
  iintro ⟨#Hlv, -, ⟨Hy, Hg, Hi, Hout⟩, ⟨⟨⟨%G₀, HG⟩, ⟨%I₀, HI⟩, HY, HX, HJ⟩, Hbufs⟩, ⟨⟨Hs0, Hs1, Hs2, Hs3, Hs4⟩, Hsems⟩, HO⟩
  ihave Hmw := ((K (F := F)).mayWaits_none (thr := tile d i) hO) $$ Hlv
  ihave HG := (Entails.of_eq (edgesPts_view d i G₀).symm) $$ HG
  ihave HI := (Entails.of_eq (widthsPts_view d i I₀).symm) $$ HI
  sl_exec
  ihave HG := (Entails.of_eq (edgesPts_copied d i G₀ (tile_body.sl.dma0 G) G rfl)) $$ HG
  ihave HI := (Entails.of_eq (widthsPts_copied d i I₀ (tile_body.sl.dma0_1 I) I rfl)) $$ HI
  rw [wp_bind]
  iapply (wp_wand frame (wpE (defs₀ (F := F)) 𝒱₀ (tile d i) none)
    (Q := fun _ => iprop(tileInv d i G I y q O W ∗ tileOut d i (outX G I y) (outJ I y))))
    $$ [HG HI Hy HY HX HJ Hs2 Hs3 Hs4 HO Hout]
  · iapply (wp_blocks d i G I y q O W fx fj)
    isplitr [Hout]; swap; · iexact Hout
    unfold tileInv
    isplitr; · iexact Hmw
    isplitl [HG]; · iexact HG
    isplitl [HI]; · iexact HI
    isplitl [Hy]; · iexact Hy
    isplitl [HY]; · iexact HY
    isplitl [HX]; · iexact HX
    isplitl [HJ]; · iexact HJ
    isplitl [Hs2]; · iexact Hs2
    isplitl [Hs3]; · iexact Hs3
    isplitl [Hs4]; · iexact Hs4
    iexists _; isplitr; swap; · iexact HO
    ipureintro
    intro p hp
    rcases Finset.mem_insert.mp hp with hp | hp
    · exact .inr (hp ▸ rfl)
    rcases Finset.mem_insert.mp hp with hp | hp
    · exact .inr (hp ▸ rfl)
    exact .inl hp
  iintro %_ HQ
  unfold tileInv
  icases HQ with ⟨⟨-, HG, HI, -, HY, HX, HJ, Hs2, Hs3, Hs4, HO⟩, Hout⟩
  iapply (le_wp_ret _ _)
  isplitl [Hout]; · iexact Hout
  isplitl [HG HI HY HX HJ Hbufs]
  · isplitr [Hbufs]; swap; · iexact Hbufs
    isplitl [HG]; · iexists _; iexact HG
    isplitl [HI]; · iexists _; iexact HI
    isplitl [HY]; · iexact HY
    isplitl [HX]; · iexact HX
    iexact HJ
  isplitr [HO]; swap; · iexact HO
  isplitr [Hsems]; swap; · iexact Hsems
  isplitl [Hs0]; · iexact Hs0
  isplitl [Hs1]; · iexact Hs1
  isplitl [Hs2]; · iexact Hs2
  isplitl [Hs3]; · iexact Hs3
  iexact Hs4

end Cert.KernelIdeal.Vegas

end
-- ==== Proof.VegasIdeal.Split.lean ====
module

public import proofs.«01_k».proof.Proof.VegasIdeal.Tile

@[expose] public section

noncomputable section

namespace Cert.KernelIdeal.Vegas

open Cert.KernelIdeal.Gen Cert.Vegas
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The tiles' blocks make up the two results -/

/-- The coordinates of core `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- A block: its core, its tile and its turn on the tile. -/
abbrev Blk : Type := Fin (grid0.bound 0) × Fin (grid0.bound 1) × Fin k0_t1_loop.trips

/-- The block's number in the order of the samples. -/
def blkNo (p : Blk) : ℕ := 32 * p.2.1.val + 16 * p.1.val + p.2.2.val

theorem blkNo_inj {p p' : Blk} (h : blkNo p = blkNo p') : p = p' := by
  have h1 : p.1.val < 2 := p.1.isLt
  have h1' : p'.1.val < 2 := p'.1.isLt
  have h2 : p.2.2.val < 16 := p.2.2.isLt.trans_eq trips1
  have h2' : p'.2.2.val < 16 := p'.2.2.isLt.trans_eq trips1
  unfold blkNo at h
  exact Prod.ext (Fin.ext (by omega)) (Prod.ext (Fin.ext (by omega)) (Fin.ext (by omega)))

theorem blkNo_surj {n : ℕ} (h : n < 512) : ∃ p, blkNo p = n :=
  ⟨(⟨n / 16 % 2, Nat.mod_lt _ (by decide)⟩, ⟨n / 32, show n / 32 < 16 by omega⟩, ⟨n % 16, trips1 ▸ Nat.mod_lt _ (by decide)⟩),
    show 32 * (n / 32) + 16 * (n / 16 % 2) + n % 16 = n by omega⟩

/-- Sets that are the stretches of `w` entries from the blocks' starts do not meet. -/
theorem blocks_disjoint {α : Type} [DecidableEq α] (pos : α → ℕ) {w : ℕ} (S : Blk → Finset α)
    (hS : ∀ p a, a ∈ S p ↔ w * blkNo p ≤ pos a ∧ pos a < w * blkNo p + w) :
    ∀ p ∈ (Finset.univ : Finset Blk), ∀ p' ∈ (Finset.univ : Finset Blk), p ≠ p' → Disjoint (S p) (S p') := by
  intro p _ p' _ hne
  refine Finset.disjoint_left.mpr fun a ha ha' => hne (blkNo_inj ?_)
  obtain ⟨h1, h2⟩ := (hS p a).mp ha
  obtain ⟨h3, h4⟩ := (hS p' a).mp ha'
  have e (n : ℕ) (h1 : w * n ≤ pos a) (h2 : pos a < w * n + w) : pos a / w = n := by
    refine Nat.div_eq_of_lt_le (by rwa [Nat.mul_comm]) ?_
    rwa [Nat.mul_comm, Nat.mul_add, Nat.mul_one]
  rw [← e _ h1 h2, ← e _ h3 h4]

/-- Together they hold every entry of an array of 512 such stretches. -/
theorem blocks_cover {α : Type} [DecidableEq α] [Fintype α] (pos : α → ℕ) {w : ℕ} (hw : 0 < w) (hpos : ∀ a, pos a < 512 * w)
    (S : Blk → Finset α) (hS : ∀ p a, a ∈ S p ↔ w * blkNo p ≤ pos a ∧ pos a < w * blkNo p + w) :
    Finset.univ.biUnion S = Finset.univ := by
  refine Finset.eq_univ_of_forall fun a => Finset.mem_biUnion.mpr ?_
  obtain ⟨p, hp⟩ := blkNo_surj ((Nat.div_lt_iff_lt_mul hw).mpr (hpos a))
  refine ⟨p, Finset.mem_univ _, (hS p a).mpr ?_⟩
  rw [hp]
  exact ⟨Nat.mul_div_le _ _, Nat.lt_mul_div_succ _ hw⟩

/-- The entries of the mapped coordinates a block holds. -/
abbrev xSet (p : Blk) : Finset S8388608.Idx := (xMem (coordsV p.1 p.2.1) p.2.2).view.set
/-- The entries of the Jacobians a block holds. -/
abbrev jSet (p : Blk) : Finset S1048576.Idx := (jMem (coordsV p.1 p.2.1) p.2.2).view.set

theorem off3_blk (p : Blk) : k0_off3 (coordsV p.1 p.2.1) p.2.2 0 = 2048 * blkNo p := by
  rw [off3_eq]
  show 65536 * p.2.1.val + 32768 * p.1.val + 2048 * p.2.2.val = _
  unfold blkNo; omega

theorem mem_xSet (p : Blk) (a : S8388608.Idx) :
    a ∈ xSet p ↔ 16384 * blkNo p ≤ (a 0).val ∧ (a 0).val < 16384 * blkNo p + 16384 := by
  have e : xSet p = (Rect.unit (s := S8388608) (k0_off1 (coordsV p.1 p.2.1) p.2.2) S16384.size (k0_off1_inb _ _)).set :=
    View.set_slice_whole main_v3_0_scv _
  have h : k0_off1 (coordsV p.1 p.2.1) p.2.2 0 = 16384 * blkNo p := by rw [off1_eq, off3_blk]; omega
  rw [e, Rect.mem_set_unit, ← h]
  exact ⟨fun H => H 0, fun H a => by fin_cases a; exact H⟩

theorem mem_jSet (p : Blk) (a : S1048576.Idx) :
    a ∈ jSet p ↔ 2048 * blkNo p ≤ (a 0).val ∧ (a 0).val < 2048 * blkNo p + 2048 := by
  have e : jSet p = (Rect.unit (s := S1048576) (k0_off3 (coordsV p.1 p.2.1) p.2.2) S2048.size (k0_off3_inb _ _)).set :=
    View.set_slice_whole main_v3_1_scv _
  rw [e, Rect.mem_set_unit, ← off3_blk]
  exact ⟨fun H => H 0, fun H a => by fin_cases a; exact H⟩

/-- The mapped coordinates, whole, are their blocks. -/
theorem xPts_blocks (d : Dev nD) (f : Vec F S8388608 .f32) :
    ((T d : Thread nD τ).loc main_v3_0 ↦{fullShare} f : sProp 𝕄)
      = bigSep Finset.univ fun p : Blk => (T d : Thread nD τ).loc main_v3_0 ↦[xSet p]{fullShare} f := by
  rw [← pointsTo_biUnion Finset.univ (ℓ := (T d : Thread nD τ).loc main_v3_0) xSet
    (blocks_disjoint (fun a : S8388608.Idx => (a 0).val) xSet mem_xSet),
    blocks_cover (fun a : S8388608.Idx => (a 0).val) (by decide) (fun a => (a 0).isLt) xSet mem_xSet]

/-- The Jacobians, whole, are their blocks. -/
theorem jPts_blocks (d : Dev nD) (f : Vec F S1048576 .f32) :
    ((T d : Thread nD τ).loc main_v3_1 ↦{fullShare} f : sProp 𝕄)
      = bigSep Finset.univ fun p : Blk => (T d : Thread nD τ).loc main_v3_1 ↦[jSet p]{fullShare} f := by
  rw [← pointsTo_biUnion Finset.univ (ℓ := (T d : Thread nD τ).loc main_v3_1) jSet
    (blocks_disjoint (fun a : S1048576.Idx => (a 0).val) jSet mem_jSet),
    blocks_cover (fun a : S1048576.Idx => (a 0).val) (by decide) (fun a => (a 0).isLt) jSet mem_jSet]

/-- The two results, whole, are the tiles' blocks of them. -/
theorem out_tiles (d : Dev nD) (fx : Vec F S8388608 .f32) (fj : Vec F S1048576 .f32) :
    iprop(((T d : Thread nD τ).loc main_v3_0 ↦{fullShare} fx) ∗ ((T d : Thread nD τ).loc main_v3_1 ↦{fullShare} fj))
      = (bigSep Finset.univ fun c : Fin (grid0.bound 0) => bigSep Finset.univ fun s : Fin (grid0.bound 1) =>
          tileOut d (coordsV c s) fx fj : sProp 𝕄) := by
  rw [xPts_blocks, jPts_blocks, ← bigSep_sep', BI.bigSep_univ_prod]
  refine bigSep_congr fun c _ => ?_
  rw [BI.bigSep_univ_prod]
  rfl

/-! ## The tiles' shares of the operands -/

/-- The share of an operand that core `c`'s tile `s` reads through. -/
abbrev tileShare (c : Fin (grid0.bound 0)) (s : Fin (grid0.bound 1)) : PosShare TreeShare :=
  Transfers.shareTok (Transfers.shareTok fullShare 2 c) 16 s

/-- An array held in full gives each tile its share. -/
theorem operand_tiles {ℓ : Loc nD τ sig} (f : Buf (Elt F) ℓ) :
    (ℓ ↦{fullShare} f : sProp 𝕄)
      ⊢ bigSep Finset.univ fun c : Fin (grid0.bound 0) => bigSep Finset.univ fun s : Fin (grid0.bound 1) =>
          (ℓ ↦{tileShare c s} f : sProp 𝕄) := by
  refine ((Transfers.pointsTo_toks_split fullShare 2).trans sep_elim_right).trans ?_
  exact bigSep_mono fun c _ => (Transfers.pointsTo_toks_split _ 16).trans sep_elim_right

/-- The operands and the results, whole, are what the tiles are handed. -/
theorem task_tiles (d : Dev nD) (G : Vec F S8008 .f32) (I : Vec F S8000 .f32) (y fx : Vec F S8388608 .f32) (fj : Vec F S1048576 .f32) :
    iprop(((T d : Thread nD τ).loc main_v0 ↦{fullShare} y) ∗ ((T d : Thread nD τ).loc main_v1 ↦{fullShare} G)
        ∗ ((T d : Thread nD τ).loc main_v2 ↦{fullShare} I)
        ∗ ((T d : Thread nD τ).loc main_v3_0 ↦{fullShare} fx) ∗ ((T d : Thread nD τ).loc main_v3_1 ↦{fullShare} fj))
      ⊢ (bigSep Finset.univ fun c : Fin (grid0.bound 0) => bigSep Finset.univ fun s : Fin (grid0.bound 1) =>
          taskIn d (coordsV c s) (tileShare c s) G I y fx fj : sProp 𝕄) := by
  rw [out_tiles]
  unfold taskIn
  simp only [bigSep_sep']
  exact BI.sep_mono (operand_tiles _) (BI.sep_mono (operand_tiles _) (BI.sep_mono (operand_tiles _) (BI.Entails.refl _)))

end Cert.KernelIdeal.Vegas

end
-- ==== Proof.VegasIdeal.Launch.lean ====
module

public import proofs.«01_k».proof.Proof.VegasIdeal.Split
public import Idealize.ShloMosaic.Lib.SparseCore.Quiescent
public import Idealize.ShloMosaic.Lib.StableHlo.Run

@[expose] public section

noncomputable section

namespace Cert.KernelIdeal.Vegas

open Cert.KernelIdeal.Gen Cert.Vegas
open Idealize.ShloMosaic
open Idealize.ShloMosaic.SparseCore (S V T)
open Idealize.ShloMosaic.SparseCore.Cfg (HIx Pay tileRest ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (G : Dev nD → Vec F S8008 .f32) (I : Dev nD → Vec F S8000 .f32) (y fx : Dev nD → Vec F S8388608 .f32)
  (fj : Dev nD → Vec F S1048576 .f32)

/-! ## What the call hands out -/

/-- What core `c`'s tile `s` is handed. -/
def goTile (d : Dev nD) (c : Fin (grid0.bound 0)) (s : Fin (grid0.bound 1)) : sProp 𝕄 :=
  taskIn d (coordsV c s) (tileShare c s) (G d) (I d) (y d) (fx d) (fj d)
/-- What it hands back. -/
def doneTile (d : Dev nD) (c : Fin (grid0.bound 0)) (s : Fin (grid0.bound 1)) : sProp 𝕄 :=
  tileOut d (coordsV c s) (outX (G d) (I d) (y d)) (outJ (I d) (y d))
/-- What core `c` is handed: its tiles' shares. -/
def goCore (d : Dev nD) (c : Fin (grid0.bound 0)) : sProp 𝕄 := bigSep Finset.univ fun s : Fin (grid0.bound 1) => goTile G I y fx fj d c s
/-- What it hands back. -/
def doneCore (d : Dev nD) (c : Fin (grid0.bound 0)) : sProp 𝕄 := bigSep Finset.univ fun s : Fin (grid0.bound 1) => doneTile G I y d c s

instance goTile_storable (d : Dev nD) (c : Fin (grid0.bound 0)) (s : Fin (grid0.bound 1)) :
    BI.Storable (upEmb : UEmb _ 𝕄) (goTile G I y fx fj d c s) := by
  unfold goTile taskIn tileOut; infer_instance
instance doneTile_storable (d : Dev nD) (c : Fin (grid0.bound 0)) (s : Fin (grid0.bound 1)) :
    BI.Storable (upEmb : UEmb _ 𝕄) (doneTile G I y d c s) := by
  unfold doneTile tileOut; infer_instance
instance goCore_storable (d : Dev nD) (c : Fin (grid0.bound 0)) : BI.Storable (upEmb : UEmb _ 𝕄) (goCore G I y fx fj d c) := by
  unfold goCore; infer_instance
instance doneCore_storable (d : Dev nD) (c : Fin (grid0.bound 0)) : BI.Storable (upEmb : UEmb _ 𝕄) (doneCore G I y d c) := by
  unfold doneCore; infer_instance

omit [FloatOps F] in
theorem nCore_zero : (K (F := F)).nCore 0 = grid0.bound 0 := rfl
omit [FloatOps F] in
theorem nSub_zero : (K (F := F)).nSub 0 = grid0.bound 1 := rfl

attribute [irreducible] goTile doneTile goCore doneCore

/-- The call's hand-overs. -/
def P : (K (F := F)).Pay (nD := nD) (Val := Elt F) (Name := ℕ) (U := UU) where
  st := fun q d c => match q with | 0 => goCore G I y fx fj d (Fin.cast nCore_zero c)
  dn := fun q d c => match q with | 0 => doneCore G I y d (Fin.cast nCore_zero c)
  go := fun q d c s => match q with | 0 => goTile G I y fx fj d (Fin.cast nCore_zero c) (Fin.cast nSub_zero s)
  td := fun q d c s => match q with | 0 => doneTile G I y d (Fin.cast nCore_zero c) (Fin.cast nSub_zero s)
  x := fun _ _ => iprop(emp)

instance P_storable : (P G I y fx fj).IsStorable where
  st q d c := match q with | 0 => goCore_storable G I y fx fj d _
  dn q d c := match q with | 0 => doneCore_storable G I y d _
  go q d c s := match q with | 0 => goTile_storable G I y fx fj d _ _
  td q d c s := match q with | 0 => doneTile_storable G I y d _ _

/-! ## The launch's obligations -/

theorem P_st (d : Dev nD) (c : Fin ((K (F := F)).nCore 0)) : (P G I y fx fj).st 0 d c = goCore G I y fx fj d (Fin.cast nCore_zero c) := rfl
theorem P_dn (d : Dev nD) (c : Fin ((K (F := F)).nCore 0)) : (P G I y fx fj).dn 0 d c = doneCore G I y d (Fin.cast nCore_zero c) := rfl
theorem P_go (d : Dev nD) (c : Fin ((K (F := F)).nCore 0)) (s : Fin ((K (F := F)).nSub 0)) :
    (P G I y fx fj).go 0 d c s = goTile G I y fx fj d (Fin.cast nCore_zero c) (Fin.cast nSub_zero s) := rfl
theorem P_td (d : Dev nD) (c : Fin ((K (F := F)).nCore 0)) (s : Fin ((K (F := F)).nSub 0)) :
    (P G I y fx fj).td 0 d c s = doneTile G I y d (Fin.cast nCore_zero c) (Fin.cast nSub_zero s) := rfl

theorem defs₀_vector (c : Fin τ.nSC) (s : Fin τ.nSub) :
    defs₀ (F := F) (.scVector c s) 0 ()
      = SparseCore.onTile hcore0 hsub0 (fun c s => cc0_vegas (coordsV c s)
          (Memref.whole main_v0_scv) (Memref.isWhole_whole _) (Memref.whole main_v1_scv) (Memref.isWhole_whole _)
          (Memref.whole main_v2_scv) (Memref.isWhole_whole _) (Memref.whole main_v3_0_scv) (Memref.isWhole_whole _)
          (Memref.whole main_v3_1_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scoped0 cc0_scoped1 cc0_scoped2 cc0_scoped3 cc0_scoped4) ⟨⟩ c s := rfl

omit [FloatOps F] in
/-- A wait at a transfer's own semaphore is one of the waits the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs the kernel from what it is handed to what it hands back. -/
theorem tileObl (hF : (K (F := F)).Facts) : (K (F := F)).TileObl (D (F := F)) 𝒱 (P G I y fx fj) v₀ 0 := by
  intro d c i O W hO _ _
  simp only [show (P G I y fx fj).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td]
  unfold goTile doneTile
  exact (tile_body hF d (coordsV ⟨_, hc.1⟩ ⟨_, hc.2⟩) (tileShare ⟨_, hc.1⟩ ⟨_, hc.2⟩) (G d) (I d) (y d) (fx d) (fj d) O W hO).trans
    (wp_mono frame _ _ fun _ => obl_post)

omit [FloatOps F] in
theorem bigSep_cast {a b : ℕ} (h : a = b) (Φ : Fin b → sProp 𝕄) :
    (bigSep Finset.univ fun i : Fin a => Φ (Fin.cast h i)) = bigSep Finset.univ Φ := by subst h; rfl

/-- A core's share is its tiles' shares, before and after. -/
theorem vecSplit : (K (F := F)).VecSplit' (P G I y fx fj) 0 := by
  intro d c
  simp only [P_st, P_dn, P_go, P_td]
  rw [bigSep_cast nSub_zero (fun s => goTile G I y fx fj d (Fin.cast nCore_zero c) s),
    bigSep_cast nSub_zero (fun s => doneTile G I y d (Fin.cast nCore_zero c) s)]
  unfold goCore doneCore
  iintro H; imodintro
  isplitl [H]; · iexact H
  iintro H; iexact H

/-- The ghost state the launch starts from: the handshakes'. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P G I y fx fj).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the call is handed: the operands and the results' arrays, whole. -/
theorem st0 (d : Dev nD) :
    iprop(((T d : Thread nD τ).loc main_v0 ↦{fullShare} y d) ∗ ((T d : Thread nD τ).loc main_v1 ↦{fullShare} G d)
        ∗ ((T d : Thread nD τ).loc main_v2 ↦{fullShare} I d)
        ∗ ((T d : Thread nD τ).loc main_v3_0 ↦{fullShare} fx d) ∗ ((T d : Thread nD τ).loc main_v3_1 ↦{fullShare} fj d))
      ⊢ (bigSep Finset.univ fun c : Fin ((K (F := F)).nCore 0) => (P G I y fx fj).st 0 d c : sProp 𝕄) := by
  simp only [P_st]
  rw [bigSep_cast nCore_zero (fun c => goCore G I y fx fj d c)]
  unfold goCore goTile
  exact task_tiles d (G d) (I d) (y d) _ _

/-- What it hands back: the results, whole. -/
theorem dn0 (d : Dev nD) :
    (bigSep Finset.univ fun c : Fin ((K (F := F)).nCore 0) => (P G I y fx fj).dn 0 d c : sProp 𝕄)
      = iprop(((T d : Thread nD τ).loc main_v3_0 ↦{fullShare} outX (G d) (I d) (y d))
          ∗ ((T d : Thread nD τ).loc main_v3_1 ↦{fullShare} outJ (I d) (y d))) := by
  simp only [P_dn]
  rw [bigSep_cast nCore_zero (fun c => doneCore G I y d c)]
  unfold doneCore doneTile
  exact (out_tiles d (outX (G d) (I d) (y d)) (outJ (I d) (y d))).symm

end Cert.KernelIdeal.Vegas

end
-- ==== Proof.VegasIdeal.Run.lean ====
module

public import proofs.«01_k».proof.Proof.VegasIdeal.Launch

@[expose] public section

noncomputable section

namespace Cert.KernelIdeal.Vegas

open Cert.KernelIdeal.Gen Cert.Vegas
open Idealize.ShloMosaic
open Idealize.ShloMosaic.SparseCore (S V T)
open Idealize.ShloMosaic.SparseCore.Cfg (HIx Pay tileRest ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the program computes -/

/-- The coordinates, flat. -/
def yFlat (d : Dev nD) : Vec F S8388608 .f32 :=
  shapeCast S8388608 (m ((T d : Thread nD τ).loc main_arg0)) shapeCasts_S1048576x8_S8388608
/-- The bins' left edges, flat. -/
def gFlat (d : Dev nD) : Vec F S8008 .f32 :=
  shapeCast S8008 (m ((T d : Thread nD τ).loc main_arg1)) shapeCasts_S8x1001_S8008
/-- The bins' widths, flat. -/
def iFlat (d : Dev nD) : Vec F S8000 .f32 :=
  shapeCast S8000 (m ((T d : Thread nD τ).loc main_arg2)) shapeCasts_S8x1000_S8000
/-- The mapped coordinates the program returns. -/
def resX (d : Dev nD) : Vec F S1048576x8 .f32 :=
  shapeCast S1048576x8 (outX (gFlat m d) (iFlat m d) (yFlat m d)) shapeCasts_S8388608_S1048576x8
/-- The Jacobians the program returns. -/
def resJ (d : Dev nD) : Vec F S1048576 .f32 := outJ (iFlat m d) (yFlat m d)

/-! ## The program around the call -/

abbrev rA0 : DevRef τ sig := Proc.devRef .tc (main_arg0 : Ref sig .tc)
abbrev rA1 : DevRef τ sig := Proc.devRef .tc (main_arg1 : Ref sig .tc)
abbrev rA2 : DevRef τ sig := Proc.devRef .tc (main_arg2 : Ref sig .tc)
abbrev rY : DevRef τ sig := Proc.devRef .tc (main_v0 : Ref sig .tc)
abbrev rG : DevRef τ sig := Proc.devRef .tc (main_v1 : Ref sig .tc)
abbrev rI : DevRef τ sig := Proc.devRef .tc (main_v2 : Ref sig .tc)
abbrev rX : DevRef τ sig := Proc.devRef .tc (main_v3_0 : Ref sig .tc)
abbrev rJ : DevRef τ sig := Proc.devRef .tc (main_v3_1 : Ref sig .tc)
abbrev rO : DevRef τ sig := Proc.devRef .tc (main_v4 : Ref sig .tc)

abbrev opY : HloOp τ sig (Elt F) := StableHlo.reshape main_arg0 main_v0 (rfl : (.f32 : EltTy) = .f32) shapeCasts_S1048576x8_S8388608
abbrev opG : HloOp τ sig (Elt F) := StableHlo.reshape main_arg1 main_v1 (rfl : (.f32 : EltTy) = .f32) shapeCasts_S8x1001_S8008
abbrev opI : HloOp τ sig (Elt F) := StableHlo.reshape main_arg2 main_v2 (rfl : (.f32 : EltTy) = .f32) shapeCasts_S8x1000_S8000
abbrev opO : HloOp τ sig (Elt F) := StableHlo.reshape main_v3_0 main_v4 (rfl : (.f32 : EltTy) = .f32) shapeCasts_S8388608_S1048576x8

/-- The program's arrays. -/
abbrev SA : Finset (DevRef τ sig) := {rA0, rA1, rA2, rY, rG, rI, rX, rJ, rO}

omit [FloatOps F] in
theorem held_SA (d : Dev nD) (W : Valuation τ sig (Elt F)) :
    (held (T d) SA W : sProp 𝕄) = iprop(((T d : Thread nD τ).loc main_arg0 ↦{fullShare} W rA0) ∗ ((T d : Thread nD τ).loc main_arg1 ↦{fullShare} W rA1)
      ∗ ((T d : Thread nD τ).loc main_arg2 ↦{fullShare} W rA2) ∗ ((T d : Thread nD τ).loc main_v0 ↦{fullShare} W rY)
      ∗ ((T d : Thread nD τ).loc main_v1 ↦{fullShare} W rG) ∗ ((T d : Thread nD τ).loc main_v2 ↦{fullShare} W rI)
      ∗ ((T d : Thread nD τ).loc main_v3_0 ↦{fullShare} W rX) ∗ ((T d : Thread nD τ).loc main_v3_1 ↦{fullShare} W rJ)
      ∗ ((T d : Thread nD τ).loc main_v4 ↦{fullShare} W rO)) := by
  unfold held SA
  iterate 8 rw [SparseCore.bigSep_insert' (by decide)]
  rw [bigSep_singleton]

/-- The arrays at the launch. -/
def V0 (d : Dev nD) : Valuation τ sig (Elt F) := fun b => m (d, b)
/-- The arrays before the call: the operands flat. -/
def V1 (d : Dev nD) : Valuation τ sig (Elt F) := opI.result (opG.result (opY.result (V0 m d)))

omit [FloatOps F] in
theorem unscoped_held (d : Dev nD) : (unscopedBufs d (fun b => m ((SparseCore.T d).loc b)) : sProp 𝕄) = held (T d) SA (V0 m d) := by
  unfold unscopedBufs
  rw [show (Finset.univ.filter fun b : Ref sig .tc => ¬ b.isScoped)
    = {main_arg0, main_arg1, main_arg2, main_v0, main_v1, main_v2, main_v3_0, main_v3_1, main_v4} by decide, held_SA]
  iterate 8 rw [SparseCore.bigSep_insert' (by decide)]
  rw [bigSep_singleton]
  rfl

omit [FloatOps F] in
/-- Flattening writes its own array only. -/
theorem V1_of_ne (d : Dev nD) {b : DevRef τ sig} (h : b ∉ ({rY, rG, rI} : Finset (DevRef τ sig))) : V1 m d b = V0 m d b := by
  simp only [Finset.mem_insert, Finset.mem_singleton, not_or] at h
  unfold V1
  rw [(opI (F := F)).result_of_not_mem _ (b := b) (show b ∉ ({rI} : Finset (DevRef τ sig)) by simpa using h.2.2),
    (opG (F := F)).result_of_not_mem _ (b := b) (show b ∉ ({rG} : Finset (DevRef τ sig)) by simpa using h.2.1),
    (opY (F := F)).result_of_not_mem _ (b := b) (show b ∉ ({rY} : Finset (DevRef τ sig)) by simpa using h.1)]

omit [FloatOps F] in
theorem V1_Y (d : Dev nD) : V1 m d rY = yFlat m d := by
  unfold V1
  rw [(opI (F := F)).result_of_not_mem _ (b := rY) (show rY ∉ ({rI} : Finset (DevRef τ sig)) by decide),
    (opG (F := F)).result_of_not_mem _ (b := rY) (show rY ∉ ({rG} : Finset (DevRef τ sig)) by decide), StableHlo.reshape_result]
  rfl
omit [FloatOps F] in
theorem V1_G (d : Dev nD) : V1 m d rG = gFlat m d := by
  unfold V1
  rw [(opI (F := F)).result_of_not_mem _ (b := rG) (show rG ∉ ({rI} : Finset (DevRef τ sig)) by decide), StableHlo.reshape_result,
    (opY (F := F)).result_of_not_mem _ (b := rA1) (show rA1 ∉ ({rY} : Finset (DevRef τ sig)) by decide)]
  rfl
omit [FloatOps F] in
theorem V1_I (d : Dev nD) : V1 m d rI = iFlat m d := by
  unfold V1
  rw [StableHlo.reshape_result, (opG (F := F)).result_of_not_mem _ (b := rA2) (show rA2 ∉ ({rG} : Finset (DevRef τ sig)) by decide),
    (opY (F := F)).result_of_not_mem _ (b := rA2) (show rA2 ∉ ({rY} : Finset (DevRef τ sig)) by decide)]
  rfl

/-- The arrays after the call, as the last operation meets them. -/
def V2 (d : Dev nD) : Valuation τ sig (Elt F) := Function.update (V0 m d) rX (outX (gFlat m d) (iFlat m d) (yFlat m d))

/-- The arrays the last operation works on. -/
abbrev SO : Finset (DevRef τ sig) := {rX, rO}

/-- The call's hand-overs, at the flat operands and what the results' arrays held. -/
abbrev PM : (K (F := F)).Pay (nD := nD) (Val := Elt F) (Name := ℕ) (U := UU) :=
  P (gFlat m) (iFlat m) (yFlat m) (fun d => m ((T d : Thread nD τ).loc main_v3_0)) (fun d => m ((T d : Thread nD τ).loc main_v3_1))

omit [FloatOps F] in
theorem held_V1 (d : Dev nD) :
    (held (T d) SA (V1 m d) : sProp 𝕄) = iprop(((T d : Thread nD τ).loc main_arg0 ↦{fullShare} m ((T d : Thread nD τ).loc main_arg0))
      ∗ ((T d : Thread nD τ).loc main_arg1 ↦{fullShare} m ((T d : Thread nD τ).loc main_arg1))
      ∗ ((T d : Thread nD τ).loc main_arg2 ↦{fullShare} m ((T d : Thread nD τ).loc main_arg2))
      ∗ ((T d : Thread nD τ).loc main_v0 ↦{fullShare} yFlat m d)
      ∗ ((T d : Thread nD τ).loc main_v1 ↦{fullShare} gFlat m d) ∗ ((T d : Thread nD τ).loc main_v2 ↦{fullShare} iFlat m d)
      ∗ ((T d : Thread nD τ).loc main_v3_0 ↦{fullShare} m ((T d : Thread nD τ).loc main_v3_0))
      ∗ ((T d : Thread nD τ).loc main_v3_1 ↦{fullShare} m ((T d : Thread nD τ).loc main_v3_1))
      ∗ ((T d : Thread nD τ).loc main_v4 ↦{fullShare} m ((T d : Thread nD τ).loc main_v4))) := by
  rw [held_SA, V1_Y, V1_G, V1_I, V1_of_ne m d (b := rA0) (by decide), V1_of_ne m d (b := rA1) (by decide),
    V1_of_ne m d (b := rA2) (by decide), V1_of_ne m d (b := rX) (by decide), V1_of_ne m d (b := rJ) (by decide),
    V1_of_ne m d (b := rO) (by decide)]
  rfl

omit [FloatOps F] in
theorem held_SO (d : Dev nD) (W : Valuation τ sig (Elt F)) :
    (held (T d) SO W : sProp 𝕄) = iprop(((T d : Thread nD τ).loc main_v3_0 ↦{fullShare} W rX) ∗ ((T d : Thread nD τ).loc main_v4 ↦{fullShare} W rO)) := by
  unfold held SO
  rw [SparseCore.bigSep_insert' (by decide), bigSep_singleton]

theorem held_V2 (d : Dev nD) :
    (held (T d) SO (V2 m d) : sProp 𝕄) = iprop(((T d : Thread nD τ).loc main_v3_0 ↦{fullShare} outX (gFlat m d) (iFlat m d) (yFlat m d))
      ∗ ((T d : Thread nD τ).loc main_v4 ↦{fullShare} m ((T d : Thread nD τ).loc main_v4))) := by
  rw [held_SO]
  unfold V2
  rw [Function.update_self, Function.update_of_ne (show rO ≠ rX by decide)]
  rfl

theorem held_V3 (d : Dev nD) :
    (held (T d) SO ((opO (F := F)).result (V2 m d)) : sProp 𝕄) ⊢ ((T d : Thread nD τ).loc main_v4 ↦{fullShare} resX m d) := by
  rw [held_SO, StableHlo.reshape_result]
  unfold V2
  rw [Function.update_self]
  exact sep_elim_right

/-- What the program leaves: the arguments as they were, the two results. -/
def FIN (d : Dev nD) : sProp 𝕄 :=
  iprop(((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_v3_1 ↦{fullShare} resJ m d)
    ∗ ((T d : Thread nD τ).loc main_v4 ↦{fullShare} resX m d))

theorem hY : (opY (F := F)).bufs ⊆ SA := show ({rA0, rY} : Finset (DevRef τ sig)) ⊆ SA by decide
theorem hG : (opG (F := F)).bufs ⊆ SA := show ({rA1, rG} : Finset (DevRef τ sig)) ⊆ SA by decide
theorem hI : (opI (F := F)).bufs ⊆ SA := show ({rA2, rI} : Finset (DevRef τ sig)) ⊆ SA by decide
theorem hO : (opO (F := F)).bufs ⊆ SO := subset_rfl

/-- The program around the call: the operands flattened, the call, the mapped coordinates shaped. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opY) (S := SA) hY (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opG) (S := SA) hG (V := (opY (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opI) (S := SA) hI
    (V := (opG (F := F)).result ((opY (F := F)).result (V0 m d)))) $$ [Hb Hheld]
  · isplitl [Hb]; · iexact Hb
    iexact Hheld
  iintro ⟨Hb, Hheld⟩
  rw [wp_ret]; imodintro
  rw [show (opI (F := F)).result ((opG (F := F)).result ((opY (F := F)).result (V0 m d))) = V1 m d from rfl]
  ihave Hh := (Entails.of_eq (held_V1 (F := F) m d)) $$ Hheld
  icases Hh with ⟨H0, H1, H2, HY, HG, HI, HX, HJ, HO⟩
  iapply ((K (F := F)).wp_run (D (F := F)) 𝒱 (EH := EH) (P := PM m) κ d 0) $$ [Hst H0 H1 H2 HY HG HI HX HJ HO Hb Hts]
  isplitr; · iexact Hctx
  isplitl [Hst]; · iexact Hst
  isplitl [HY HG HI HX HJ]
  · iapply (st0 (gFlat m) (iFlat m) (yFlat m) _ _ d)
    isplitl [HY]; · iexact HY
    isplitl [HG]; · iexact HG
    isplitl [HI]; · iexact HI
    isplitl [HX]; · iexact HX
    iexact HJ
  iintro ⟨Hst, Hdn⟩
  ihave Hdn' := (Entails.of_eq (dn0 (gFlat m) (iFlat m) (yFlat m) _ _ d)) $$ Hdn
  icases Hdn' with ⟨HX, HJ⟩
  iapply (wp_hlo_within 𝒱 (SparseCore.T d) none Set.univ (op := opO) (S := SO) hO (V := V2 m d)) $$ [Hb HX HO]
  · isplitl [Hb]; · iexact Hb
    rw [held_V2]
    isplitl [HX]; · iexact HX
    iexact HO
  iintro ⟨Hb, Hheld⟩
  rw [wp_ret]; imodintro; imodintro
  isplitl [Hst]; · iexact Hst
  isplitl [H0 H1 H2 HJ Hheld]
  · unfold FIN
    isplitl [H0]; · iexact H0
    isplitl [H1]; · iexact H1
    isplitl [H2]; · iexact H2
    isplitl [HJ]; · iexact HJ
    iapply (held_V3 m d); iexact Hheld
  isplitl [Hb] <;> iassumption

/-! ## The run -/

/-- What holds of the memory at the end on device `d`. -/
def fq (d : Dev nD) (s' : Phys nD τ sig (Elt F)) : Prop :=
  s'.mem.mem ((T d : Thread nD τ).loc main_arg0) = m ((T d : Thread nD τ).loc main_arg0)
  ∧ s'.mem.mem ((T d : Thread nD τ).loc main_arg1) = m ((T d : Thread nD τ).loc main_arg1)
  ∧ s'.mem.mem ((T d : Thread nD τ).loc main_arg2) = m ((T d : Thread nD τ).loc main_arg2)
  ∧ s'.mem.mem ((T d : Thread nD τ).loc main_v3_1) = resJ m d
  ∧ s'.mem.mem ((T d : Thread nD τ).loc main_v4) = resX m d

omit [FloatOps F] in
/-- An array held in full is what memory holds. -/
theorem agree (s' : Phys nD τ sig (Elt F)) {ℓ : Loc nD τ sig} (f : Buf (Elt F) ℓ) :
    iprop((SI s' : sProp 𝕄) ∗ ℓ ↦{fullShare} f) ⊢ iprop(⌜s'.mem.mem ℓ = f⌝ ∗ (SI s' : sProp 𝕄)) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨H0, H1, H2, HJ, HO⟩, HSI⟩
  ihave H := (agree s' _) $$ [HSI H0]
  · isplitl [HSI] <;> iassumption
  icases H with ⟨%h0, HSI⟩
  ihave H := (agree s' _) $$ [HSI H1]
  · isplitl [HSI] <;> iassumption
  icases H with ⟨%h1, HSI⟩
  ihave H := (agree s' _) $$ [HSI H2]
  · isplitl [HSI] <;> iassumption
  icases H with ⟨%h2, HSI⟩
  ihave H := (agree s' _) $$ [HSI HJ]
  · isplitl [HSI] <;> iassumption
  icases H with ⟨%h3, HSI⟩
  ihave H := (agree s' _) $$ [HSI HO]
  · isplitl [HSI] <;> iassumption
  icases H with ⟨%h4, -⟩
  ipureintro
  exact ⟨h0, h1, h2, h3, h4⟩

/-- What every run ends in: on each device the arguments as they were and the two results, every counter at zero. -/
def QC : PUnit × MemSt nD τ sig (Elt F) → Prop := fun r =>
  (∀ d : Dev nD, r.2.mem ((T d : Thread nD τ).loc main_arg0) = m ((T d : Thread nD τ).loc main_arg0)
    ∧ r.2.mem ((T d : Thread nD τ).loc main_arg1) = m ((T d : Thread nD τ).loc main_arg1)
    ∧ r.2.mem ((T d : Thread nD τ).loc main_arg2) = m ((T d : Thread nD τ).loc main_arg2)
    ∧ r.2.mem ((T d : Thread nD τ).loc main_v3_1) = resJ m d
    ∧ r.2.mem ((T d : Thread nD τ).loc main_v4) = resX m d) ∧ r.2.sem = fun _ => 0

/-- Every run of the program ends, with the arguments as they were and the results at their values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ _ facts)
    (fun q _ => match q with | 0 => SparseCore.Cfg.VecSplit.of_plain (vecSplit _ _ _ _ _))
    m ρ main (fun _ => iprop(emp)) (FIN m) (u₀ (F := F)) (sep_elim_left.trans (hu₀ _ _ _ _ _)) (hmain m ρ) (fq m) (hfin m) (QC m) (fun _ h hz => ⟨h, hz⟩)

end Cert.KernelIdeal.Vegas

end
-- ==== Proof.Vegas.Maths.lean ====
module

public import proofs.«01_k».proof.Proof.Vegas.Values
public import Idealize.ShloMosaic.Lib.IdealHost
public import Idealize.ShloMosaic.Lib.StableHlo.Predicate

@[expose] public section

/-! Scaled coordinates and bins over the extended reals, for a coordinate in the unit interval. -/

namespace Cert.Vegas

open Idealize.ShloMosaic

/-- The pattern the programs scale by is one thousand. -/
theorem ofBits_thousand : Ideal.ofBits .f32 0x447A0000#32 = ((1000 : ℝ) : EReal) := by
  simp [Ideal.ofBits, Ideal.ieee, -EReal.coe_mul]; norm_num

/-- A coordinate between zero and one, scaled, is a real number between zero and one thousand. -/
theorem scaled_real (y : Ideal .f32) (h0 : (0 : EReal) ≤ y) (h1 : y < (1 : EReal)) :
    ∃ s : ℝ, 0 ≤ s ∧ s < 1000 ∧ scaled y = ((s : ℝ) : EReal) := by
  induction y using EReal.rec with
  | bot => simp at h0
  | top => simp at h1
  | coe r =>
    have h0' : 0 ≤ r := by exact_mod_cast h0
    have h1' : r < 1 := by exact_mod_cast h1
    refine ⟨r * 1000, by positivity, by linarith, ?_⟩
    show ((r : ℝ) : EReal) * Ideal.ofBits .f32 0x447A0000#32 = _
    rw [ofBits_thousand, EReal.coe_mul]

/-- The whole part of such a number, as a word: between zero and 999. -/
theorem floor_word {s : ℝ} (h0 : 0 ≤ s) (h1 : s < 1000) :
    Ideal.fptosi 32 (s : EReal) = BitVec.ofNat 32 ⌊s⌋.toNat ∧ ⌊s⌋.toNat ≤ 999 := by
  have hf0 : 0 ≤ ⌊s⌋ := Int.floor_nonneg.mpr h0
  have hf1 : ⌊s⌋ < 1000 := Int.floor_lt.mpr (by exact_mod_cast h1)
  refine ⟨?_, by omega⟩
  rw [Ideal.fptosi, Ideal.toIntClamped_coe, if_pos h0, ← BitVec.ofInt_natCast]
  congr 1
  norm_num
  omega

/-- Truncating a nonnegative number and truncating its floor give the same word. -/
theorem floor_floor_word {s : ℝ} (h0 : 0 ≤ s) :
    Ideal.fptosi 32 (Ideal.liftRound Int.floor (s : EReal)) = Ideal.fptosi 32 (s : EReal) := by
  have hf0 : (0 : ℝ) ≤ (⌊s⌋ : ℝ) := by exact_mod_cast Int.floor_nonneg.mpr h0
  show Ideal.fptosi 32 (((⌊s⌋ : ℤ) : ℝ) : EReal) = _
  rw [Ideal.fptosi, Ideal.fptosi, Ideal.toIntClamped_coe, Ideal.toIntClamped_coe, if_pos h0, if_pos hf0, Int.floor_intCast]

/-- The word the reference floors a scaled coordinate to. -/
noncomputable def floorWord (y : Ideal .f32) : BitVec 32 :=
  FloatOps.fptosi 32 (FloatOps.hostUnary .floor (scaled y))

/-- For a coordinate in the unit interval the floored word is at most 999. -/
theorem floorWord_le (y : Ideal .f32) (h0 : (0 : EReal) ≤ y) (h1 : y < (1 : EReal)) : (floorWord y).toNat ≤ 999 := by
  obtain ⟨s, hs0, hs1, hs⟩ := scaled_real y h0 h1
  have e : floorWord y = Ideal.fptosi 32 (s : EReal) := by
    show Ideal.fptosi 32 (Ideal.liftRound Int.floor (scaled y)) = _
    rw [hs, floor_floor_word hs0]
  rw [e, (floor_word hs0 hs1).1, BitVec.toNat_ofNat]
  have := (floor_word hs0 hs1).2
  omega

/-- For a coordinate in the unit interval the kernel's clipped word is the floored word. -/
theorem binWord_eq (y : Ideal .f32) (h0 : (0 : EReal) ≤ y) (h1 : y < (1 : EReal)) : binWord y = floorWord y := by
  have hw := floorWord_le y h0 h1
  obtain ⟨s, hs0, hs1, hs⟩ := scaled_real y h0 h1
  have e : floorWord y = FloatOps.fptosi 32 (scaled y) := by
    show Ideal.fptosi 32 (Ideal.liftRound Int.floor (scaled y)) = Ideal.fptosi 32 (scaled y)
    rw [hs, floor_floor_word hs0]
  rw [binWord, ← e]
  exact StableHlo.Predicate.clamp_eval _ _ (by decide) hw

/-- Clipping with the bounds written first leaves a word of at most 999 as it is. -/
theorem clip_bounds_first {w : BitVec 32} (hw : w.toNat ≤ 999) :
    IntOp.minsi 999#32 (IntOp.maxsi 0#32 w) = w := by
  have e : w.toInt = w.toNat := StableHlo.Predicate.toInt_eq_toNat_of_lt (by omega)
  have h1 : IntOp.maxsi 0#32 w = w := by
    unfold IntOp.maxsi
    split
    · rename_i h
      have : w.toInt < 0 := by simpa [BitVec.slt] using h
      omega
    · rfl
  rw [h1]
  unfold IntOp.minsi
  split
  · rename_i h
    have : (999 : ℤ) < w.toInt := by simpa [BitVec.slt] using h
    omega
  · rfl

end Cert.Vegas
-- ==== Proof.Vegas.Reference.lean ====
module

public import proofs.«01_k».proof.Proof.Vegas.Maths
public import proofs.«01_k».proof.Proof.Gen.ReferenceIdeal.Run
public import Idealize.ShloMosaic.Lib.ReduceAll
public import Idealize.ShloMosaic.Lib.ValueIdxCore
public import Idealize.ShloMosaic.Lib.Pipeline.Value

@[expose] public section

/-! What the reference computes over the extended reals, read element by element, for coordinates in the unit cube. -/

noncomputable section

namespace Cert.ReferenceIdeal.Vegas

open Cert.ReferenceIdeal Cert.ReferenceIdeal.Gen Idealize.ShloMosaic Idealize.ShloMosaic.TcCoe Idealize.ShloMosaic.ValueIdx
open Cert.Vegas

/-- The samples' coordinates lie between zero and one. -/
def InCube (Y : FVec Ideal S1048576x8 .f32) : Prop := ∀ j, (0 : EReal) ≤ Y j ∧ Y j < (1 : EReal)

/-! ## One lookup in a table -/

/-- The reference's lookup in a table of `N` entries for each dimension: the entry the index array names, where the
    index is between zero and `last`. -/
def along (N : ℕ) (last : BitVec 32) (gd : GatherDims ⟨2, ![N, 8]⟩ S1048576x8x1 S1048576x8)
    (ht : (⟨2, ![8, N]⟩ : Shape).Transposes [1, 0] ⟨2, ![N, 8]⟩) (table : FVec Ideal ⟨2, ![8, N]⟩ .f32)
    (idx : IVec S1048576x8x1 32) : FVec Ideal S1048576x8 .f32 :=
  select
    (Host.reduce IntOp.andi
      (andi (cmpi .sge idx (broadcastInDim S1048576x8x1 ![] bcast_S_S1048576x8x1 (constantI S_ 32 0#32)))
        (cmpi .sle idx (broadcastInDim S1048576x8x1 ![0, 1, 2] bcast_S1x1x1_S1048576x8x1_0_1_2
          (broadcastInDim S1x1x1 ![2] bcast_S1_S1x1x1_2 (constantI S1 32 last)))))
      (constantI S_ 1 1#1) reducesTo_S1048576x8x1_S1048576x8_d2 h_S_)
    (Host.gather gd (transpose ⟨2, ![N, 8]⟩ [1, 0] table ht) idx)
    (broadcastInDim S1048576x8 ![] bcast_S_S1048576x8 (constant S_ .f32 0x7FC00000#32))

/-- Two bits that are both one. -/
theorem andi_one {a b : BitVec 1} (ha : a = 1#1) (hb : b = 1#1) : IntOp.andi a b = 1#1 := by
  subst ha hb; rfl

/-- When every index names an entry of the table and is at most 999, the lookup is that entry. -/
theorem along_apply (N : ℕ) (last : BitVec 32) (hN : 1000 ≤ N) (hl : 999 ≤ last.toNat) (hl' : last.toNat < 2 ^ 31)
    (wf : GatherDims.WF ⟨2, ![N, 8]⟩ ⟨3, ![1048576, 8, 1]⟩ ⟨2, ![1048576, 8]⟩ [] [0] [1] [0] [1] 2 ![1, 1])
    (ht : (⟨2, ![8, N]⟩ : Shape).Transposes [1, 0] ⟨2, ![N, 8]⟩) (table : FVec Ideal ⟨2, ![8, N]⟩ .f32)
    (idx : IVec S1048576x8x1 32) (b : S1048576x8.Idx → BitVec 32) (hb : ∀ j, (b j).toNat ≤ 999)
    (hidx : ∀ k : S1048576x8x1.Idx, idx k = b (ix2 (k 0) (k 1))) (j : S1048576x8.Idx) :
    along N last (takeRowsDims N 8 1048576 wf) ht table idx j
      = table (ix2 (j 1) ⟨(b j).toNat, by have := hb j; omega⟩) := by
  unfold along
  rw [select_apply, Host.reduce_andi_one _ _ _ _ j rfl, select_one, gather_take_rows_apply (by omega) wf]
  · refine transpose_apply _ _ _ _ _ fun c => ?_
    have e : idx (takeIdx j) = b j := (hidx _).trans (congrArg b (eq_ix2 j).symm)
    have hj := hb j
    match c with
    | ⟨0, _⟩ =>
      show (b j).toNat = min (idx (takeIdx j)).toInt.toNat (N - 1)
      rw [e, StableHlo.Predicate.toInt_eq_toNat_of_lt (by omega)]
      omega
    | ⟨1, _⟩ => rfl
  · intro k
    have hk := hb (ix2 (k 0) (k 1))
    refine andi_one ?_ ?_
    · show IntOp.cmpi .sge (idx k) 0#32 = 1#1
      rw [hidx, StableHlo.Predicate.sge_iff_toNat (by omega) (by decide)]
      exact Nat.zero_le _
    · show IntOp.cmpi .sle (idx k) last = 1#1
      rw [hidx, StableHlo.Predicate.sle_iff_toNat (by omega) hl']
      omega

/-! ## The words -/

/-- The scaled coordinates. -/
def scaledV (Y : FVec Ideal S1048576x8 .f32) : FVec Ideal S1048576x8 .f32 :=
  mulf Y (broadcastInDim S1048576x8 ![] bcast_S_S1048576x8 (constant S_ .f32 0x447A0000#32))

/-- The whole parts of the scaled coordinates. -/
def wholeV (Y : FVec Ideal S1048576x8 .f32) : IVec S1048576x8 32 := fptosi 32 (Host.floor (scaledV Y))

/-- The whole parts, clipped to 0 … 999. -/
def clippedV (Y : FVec Ideal S1048576x8 .f32) : IVec S1048576x8 32 :=
  minsi (broadcastInDim S1048576x8 ![] bcast_S_S1048576x8 (id (constantI S_ 32 999#32)))
    (maxsi (broadcastInDim S1048576x8 ![] bcast_S_S1048576x8 (id (constantI S_ 32 0#32))) (wholeV Y))

/-- The index array of a lookup: the clipped whole parts, a negative one counted from the end of the table. -/
def indexV (n : BitVec 32) (Y : FVec Ideal S1048576x8 .f32) : IVec S1048576x8x1 32 :=
  shapeCast _
    (select (cmpi .slt (clippedV Y) (broadcastInDim S1048576x8 ![] bcast_S_S1048576x8 (constantI S_ 32 0#32)))
      (addi (clippedV Y) (broadcastInDim S1048576x8 ![] bcast_S_S1048576x8 (constantI S_ 32 n))) (clippedV Y))
    shapeCasts_S1048576x8_S1048576x8x1

/-- In the unit cube, the whole part is the kernel's bin word. -/
theorem wholeV_apply {Y : FVec Ideal S1048576x8 .f32} (h : InCube Y) (j : S1048576x8.Idx) : wholeV Y j = binWord (Y j) :=
  (binWord_eq (Y j) (h j).1 (h j).2).symm

/-- In the unit cube, clipping changes nothing. -/
theorem clippedV_apply {Y : FVec Ideal S1048576x8 .f32} (h : InCube Y) (j : S1048576x8.Idx) :
    clippedV Y j = binWord (Y j) := by
  show IntOp.minsi 999#32 (IntOp.maxsi 0#32 (wholeV Y j)) = _
  rw [wholeV_apply h, clip_bounds_first (bin_le (Y j))]

/-- A word of at most 999 is not negative. -/
theorem slt_zero {w : BitVec 32} (hw : w.toNat ≤ 999) : IntOp.cmpi .slt w 0#32 = 0#1 :=
  eq_zero_of_ne_one fun h =>
    absurd ((StableHlo.Predicate.slt_iff_toNat (by omega) (by decide)).mp h) (Nat.not_lt_zero _)

/-- A selection whose condition is zero at an index is its second array there. -/
theorem select_skip {s : Shape} {α : Type} {p : IVec s 1} (a b : s.Idx → α) (j : s.Idx) (h : p j = 0#1) :
    select p a b j = b j := by
  rw [select_apply, h, select_zero]

/-- A selection whose condition is one at an index is its first array there. -/
theorem select_take {s : Shape} {α : Type} {p : IVec s 1} (a b : s.Idx → α) (j : s.Idx) (h : p j = 1#1) :
    select p a b j = a j := by
  rw [select_apply, h, select_one]

/-- A sum, a product and a difference of arrays at an index, the last term an array of words read as numbers. -/
theorem step_apply {s : Shape} (a b t : FVec Ideal s .f32) (w : IVec s 32) (j : s.Idx) :
    addf a (mulf b (subf t (sitofp .f32 w))) j
      = FloatOps.addf (a j) (FloatOps.mulf (b j) (FloatOps.subf (t j) (FloatOps.sitofp .f32 (w j)))) := rfl

/-- An array times a constant at an index. -/
theorem times_apply (a : FVec Ideal S1048576x8 .f32) (x : BitVec 32) (j : S1048576x8.Idx) :
    mulf a (broadcastInDim S1048576x8 ![] bcast_S_S1048576x8 (constant S_ .f32 x)) j
      = FloatOps.mulf (a j) (Scalar.ofBits .f32 x) := rfl

/-- A scaled coordinate. -/
theorem scaledV_apply (Y : FVec Ideal S1048576x8 .f32) (j : S1048576x8.Idx) : scaledV Y j = scaled (Y j) := rfl

/-- In the unit cube, the index array holds the bin words. -/
theorem indexV_apply (n : BitVec 32) {Y : FVec Ideal S1048576x8 .f32} (h : InCube Y) (k : S1048576x8x1.Idx) :
    indexV n Y k = binWord (Y (ix2 (k 0) (k 1))) := by
  unfold indexV
  refine (shapeCast_apply _ _ k (ix2 (k 0) (k 1)) ?_).trans (select_skip _ _ _ ?_ |>.trans (clippedV_apply h _))
  · rw [Shape.rowMajor_val_two, Shape.rowMajor_val_three]
    have := (k 2).isLt
    show (k 0).val * 8 + (k 1).val = ((k 0).val * 8 + (k 1).val) * 1 + (k 2).val
    have h2 : (k 2).val < 1 := this
    omega
  · exact (congrArg (IntOp.cmpi .slt · 0#32) (clippedV_apply h _)).trans (slt_zero (bin_le _))

/-- In the unit cube, every whole part is below 1000. -/
theorem inside {Y : FVec Ideal S1048576x8 .f32} (h : InCube Y) (j : S1048576x8.Idx) :
    IntOp.cmpi .slt (wholeV Y j) 1000#32 = 1#1 := by
  have hb : (binWord (Y j)).toNat ≤ 999 := bin_le (Y j)
  rw [wholeV_apply h, StableHlo.Predicate.slt_iff_toNat (by omega) (by decide)]
  exact Nat.lt_succ_of_le hb

/-! ## The lookups and the results -/

/-- The left edges the reference looks up. -/
def edgeV (G : FVec Ideal S8x1001 .f32) (Y : FVec Ideal S1048576x8 .f32) : FVec Ideal S1048576x8 .f32 :=
  along 1001 1000#32 gather_S1001x8_S1048576x8x1_S1048576x8_n_0_1_1_0_2_11 transposes_S8x1001_S1001x8_1_0 G (indexV 1001#32 Y)

/-- The widths the reference looks up. -/
def widthV (I : FVec Ideal S8x1000 .f32) (Y : FVec Ideal S1048576x8 .f32) : FVec Ideal S1048576x8 .f32 :=
  along 1000 999#32 gather_S1000x8_S1048576x8x1_S1048576x8_n_0_1_1_0_2_11 transposes_S8x1000_S1000x8_1_0 I (indexV 1000#32 Y)

/-- The bin of a coordinate, as an index into a table of `N` entries. -/
def binFin {N : ℕ} (hN : 1000 ≤ N) (y : Ideal .f32) : Fin N := ⟨bin y, by have := bin_le y; omega⟩

/-- In the unit cube, the edge looked up is the edge of the coordinate's bin. -/
theorem edgeV_apply (G : FVec Ideal S8x1001 .f32) {Y : FVec Ideal S1048576x8 .f32} (h : InCube Y) (j : S1048576x8.Idx) :
    edgeV G Y j = G (ix2 (j 1) (binFin (by decide) (Y j))) :=
  along_apply 1001 1000#32 (by decide) (by decide) (by decide) _ _ G _ (fun j => binWord (Y j)) (fun j => bin_le (Y j))
    (indexV_apply 1001#32 h) j

/-- In the unit cube, the width looked up is the width of the coordinate's bin. -/
theorem widthV_apply (I : FVec Ideal S8x1000 .f32) {Y : FVec Ideal S1048576x8 .f32} (h : InCube Y) (j : S1048576x8.Idx) :
    widthV I Y j = I (ix2 (j 1) (binFin (by decide) (Y j))) :=
  along_apply 1000 999#32 (by decide) (by decide) (by decide) _ _ I _ (fun j => binWord (Y j)) (fun j => bin_le (Y j))
    (indexV_apply 1000#32 h) j

/-- Whether each whole part is below 1000. -/
def insideV (Y : FVec Ideal S1048576x8 .f32) : IVec S1048576x8 1 :=
  cmpi .slt (wholeV Y) (broadcastInDim S1048576x8 ![] bcast_S_S1048576x8 (constantI S_ 32 1000#32))

/-- In the unit cube, each is. -/
theorem insideV_apply {Y : FVec Ideal S1048576x8 .f32} (h : InCube Y) (j : S1048576x8.Idx) : insideV Y j = 1#1 :=
  inside h j

/-- The mapped coordinates the reference computes, `E` standing for what it puts outside the unit cube. -/
def mapV (G : FVec Ideal S8x1001 .f32) (I : FVec Ideal S8x1000 .f32) (Y E : FVec Ideal S1048576x8 .f32) :
    FVec Ideal S1048576x8 .f32 :=
  select (insideV Y) (addf (edgeV G Y) (mulf (widthV I Y) (subf (scaledV Y) (sitofp .f32 (wholeV Y))))) E

/-- In the unit cube, the mapped coordinate is the bin's left edge plus the bin's width times the way into the bin. -/
theorem mapV_apply (G : FVec Ideal S8x1001 .f32) (I : FVec Ideal S8x1000 .f32) {Y : FVec Ideal S1048576x8 .f32}
    (E : FVec Ideal S1048576x8 .f32) (h : InCube Y) (j : S1048576x8.Idx) :
    mapV G I Y E j = FloatOps.addf (G (ix2 (j 1) (binFin (by decide) (Y j))))
      (FloatOps.mulf (I (ix2 (j 1) (binFin (by decide) (Y j))))
        (FloatOps.subf (scaled (Y j)) (FloatOps.sitofp .f32 (binWord (Y j))))) := by
  unfold mapV
  rw [select_take _ _ _ (insideV_apply h j), step_apply, edgeV_apply G h, widthV_apply I h, scaledV_apply, wholeV_apply h]

/-- The factors of the Jacobian the reference computes, `E` standing for what it puts outside the unit cube. -/
def factorV (I : FVec Ideal S8x1000 .f32) (Y E : FVec Ideal S1048576x8 .f32) : FVec Ideal S1048576x8 .f32 :=
  select (insideV Y)
    (mulf (widthV I Y) (broadcastInDim S1048576x8 ![] bcast_S_S1048576x8 (constant S_ .f32 0x447A0000#32))) E

/-- In the unit cube, a factor is the bin's width times the number of bins. -/
theorem factorV_apply (I : FVec Ideal S8x1000 .f32) {Y : FVec Ideal S1048576x8 .f32} (E : FVec Ideal S1048576x8 .f32)
    (h : InCube Y) (j : S1048576x8.Idx) :
    factorV I Y E j = FloatOps.mulf (I (ix2 (j 1) (binFin (by decide) (Y j)))) (Scalar.ofBits .f32 0x447A0000#32) := by
  unfold factorV
  rw [select_take _ _ _ (insideV_apply h j), times_apply, widthV_apply I h]

/-- One column of an array of factors. -/
def colV (d : ℕ) (hs : S1048576x8.Slices ![0, d] S1048576x1) (v : FVec Ideal S1048576x8 .f32) : FVec Ideal S1048576 .f32 :=
  shapeCast _ (extractStridedSlice S1048576x1 ![0, d] v hs) shapeCasts_S1048576x1_S1048576

/-- A column's entry for a sample is the array's entry for the sample in that column. -/
theorem colV_apply (d : Fin 8) (hs : S1048576x8.Slices ![0, d.val] S1048576x1) (v : FVec Ideal S1048576x8 .f32)
    (j : S1048576.Idx) : colV d.val hs v j = v (ix2 (j 0) d) := by
  refine (shapeCast_apply _ _ j (ix2 (j 0) (0 : Fin 1)) ?_).trans ?_
  · rw [Shape.rowMajor_val_two, Shape.rowMajor_val_one]
    show (j 0).val * 1 + 0 = (j 0).val
    omega
  · refine extractStridedSlice_apply _ _ _ _ _ fun a => ?_
    match a with
    | ⟨0, _⟩ => show (j 0).val = 0 + (j 0).val; omega
    | ⟨1, _⟩ => rfl

/-- The product of the eight columns of an array, from the left. -/
def prodV (v : FVec Ideal S1048576x8 .f32) : FVec Ideal S1048576 .f32 :=
  mulf (mulf (mulf (mulf (mulf (mulf (mulf
    (colV 0 slices_S1048576x8_S1048576x1_0_0 v) (colV 1 slices_S1048576x8_S1048576x1_0_1 v))
    (colV 2 slices_S1048576x8_S1048576x1_0_2 v)) (colV 3 slices_S1048576x8_S1048576x1_0_3 v))
    (colV 4 slices_S1048576x8_S1048576x1_0_4 v)) (colV 5 slices_S1048576x8_S1048576x1_0_5 v))
    (colV 6 slices_S1048576x8_S1048576x1_0_6 v)) (colV 7 slices_S1048576x8_S1048576x1_0_7 v)

/-- The product from the left of a sample's entries in the first so many columns, starting from one. -/
def prodTo (v : FVec Ideal S1048576x8 .f32) (r : Fin 1048576) : (d : ℕ) → d ≤ 8 → Ideal .f32
  | 0, _ => Scalar.ofBits .f32 0x3F800000#32
  | d + 1, h => FloatOps.mulf (prodTo v r d (by omega)) (v (ix2 r ⟨d, h⟩))

/-- The product of the eight columns is the product over the first eight columns that starts from one. -/
theorem prodV_apply (v : FVec Ideal S1048576x8 .f32) (j : S1048576.Idx) (r : Fin 1048576) (e : j 0 = r) :
    prodV v j = prodTo v r 8 le_rfl := by
  subst e
  have one (z : Ideal .f32) : FloatOps.mulf (Scalar.ofBits .f32 0x3F800000#32) z = z := by
    show Ideal.ofBits .f32 0x3F800000#32 * z = z
    rw [Ideal.ofBits_one_f32, one_mul]
  have c (d : Fin 8) (hs) : colV d.val hs v j = v (ix2 (j 0) d) := colV_apply d hs v j
  have m (a b : FVec Ideal S1048576 .f32) {x y : Ideal .f32} (ha : a j = x) (hb : b j = y) :
    mulf a b j = FloatOps.mulf x y := congrArg₂ FloatOps.mulf ha hb
  refine m _ _ (m _ _ (m _ _ (m _ _ (m _ _ (m _ _ (m _ _ ?_ (c 1 _)) (c 2 _)) (c 3 _)) (c 4 _)) (c 5 _)) (c 6 _)) (c 7 _)
  exact (c 0 _).trans (one _).symm

/-! ## The run's results in these terms -/

variable (m : (ℓ : Loc nD τ sig) → Buf (Elt Ideal) ℓ) (c : Dev nD)

/-- The samples' coordinates. -/
abbrev argY : FVec Ideal S1048576x8 .f32 := m ((c.tc : Thread nD τ).loc main_arg0)
/-- The bins' left edges. -/
abbrev argG : FVec Ideal S8x1001 .f32 := m ((c.tc : Thread nD τ).loc main_arg1)
/-- The bins' widths. -/
abbrev argI : FVec Ideal S8x1000 .f32 := m ((c.tc : Thread nD τ).loc main_arg2)

/-- The reference's first result is its mapped coordinates. -/
theorem out0_eq : ∃ E, Value.res_out0 m c = mapV (argG m c) (argI m c) (argY m c) E := ⟨_, rfl⟩

/-- The reference's second result is the product of its factors. -/
theorem out1_eq : ∃ E, Value.res_out1 m c = prodV (factorV (argI m c) (argY m c) E) := ⟨_, rfl⟩

end Cert.ReferenceIdeal.Vegas
-- ==== Proof.Vegas.Agree.lean ====
module

public import proofs.«01_k».proof.Proof.Vegas.Reference
public import proofs.«01_k».proof.Proof.VegasIdeal.Run
public import proofs.«01_k».proof.Proof.Gen.Pre_unit_cube

@[expose] public section

/-! The kernel's results are the reference's, over the extended reals, for coordinates in the unit cube. -/

noncomputable section

namespace Cert.Vegas.Agree

open Idealize.ShloMosaic Idealize.ShloMosaic.TcCoe Idealize.ShloMosaic.ValueIdx
open Cert.Vegas Cert.ReferenceIdeal.Vegas

/-- A two-axis array flattened, read at the position of a row and a column. -/
theorem rd_flatten {A B n : ℕ} (f : FVec Ideal ⟨2, ![A, B]⟩ .f32) (h : (⟨2, ![A, B]⟩ : Shape).ShapeCasts ⟨1, ![n]⟩)
    (hn : n = A * B) (a : Fin A) (b : Fin B) {k : ℕ} (hk : k = a.val * B + b.val) :
    rd (shapeCast ⟨1, ![n]⟩ f h : Vec Ideal ⟨1, ![n]⟩ .f32) k = f (ix2 a b) := by
  have hlt : k < n := by
    have : (a.val + 1) * B ≤ A * B := Nat.mul_le_mul_right _ a.isLt
    have hb := b.isLt
    rw [Nat.add_mul] at this
    omega
  rw [rd, dif_pos hlt]
  refine shapeCast_apply _ _ _ _ ?_
  rw [Shape.rowMajor_val_two, Shape.rowMajor_val_one]
  exact hk.symm

section
variable (Y : FVec Ideal ⟨2, ![1048576, 8]⟩ .f32) (G : FVec Ideal ⟨2, ![8, 1001]⟩ .f32) (I : FVec Ideal ⟨2, ![8, 1000]⟩ .f32)
  (hY : (⟨2, ![1048576, 8]⟩ : Shape).ShapeCasts ⟨1, ![8388608]⟩) (hG : (⟨2, ![8, 1001]⟩ : Shape).ShapeCasts ⟨1, ![8008]⟩)
  (hI : (⟨2, ![8, 1000]⟩ : Shape).ShapeCasts ⟨1, ![8000]⟩)

/-- The kernel's mapped coordinate, of flattened arrays, is the bin's left edge plus the bin's width times the way into
    the bin. -/
theorem xAt_flat (r : Fin 1048576) (d : Fin 8) {q : ℕ} (hq : q = r.val * 8 + d.val) :
    xAt (rd (shapeCast ⟨1, ![8008]⟩ G hG : Vec Ideal ⟨1, ![8008]⟩ .f32)) (rd (shapeCast ⟨1, ![8000]⟩ I hI : Vec Ideal ⟨1, ![8000]⟩ .f32))
        (rd (shapeCast ⟨1, ![8388608]⟩ Y hY : Vec Ideal ⟨1, ![8388608]⟩ .f32)) q
      = FloatOps.addf (G (ix2 d (binFin (by decide) (Y (ix2 r d)))))
          (FloatOps.mulf (I (ix2 d (binFin (by decide) (Y (ix2 r d)))))
            (FloatOps.subf (scaled (Y (ix2 r d))) (FloatOps.sitofp .f32 (binWord (Y (ix2 r d)))))) := by
  have hd : q % 8 = d.val := by have := d.isLt; omega
  rw [xAt, rd_flatten Y hY (by decide) r d hq, hd,
    rd_flatten G hG (by decide) d (binFin (by decide) (Y (ix2 r d))) (by rw [binFin]; dsimp only; omega),
    rd_flatten I hI (by decide) d (binFin (by decide) (Y (ix2 r d))) (by rw [binFin]; dsimp only; omega)]

/-- The kernel's Jacobian over a sample's first so many dimensions, of flattened arrays, is the product of as many of the
    reference's factors. -/
theorem jacAt_flat (E : FVec Ideal ⟨2, ![1048576, 8]⟩ .f32) (h : InCube Y) (r : Fin 1048576) :
    ∀ (d : ℕ) (hd : d ≤ 8),
      jacAt (rd (shapeCast ⟨1, ![8000]⟩ I hI : Vec Ideal ⟨1, ![8000]⟩ .f32))
          (rd (shapeCast ⟨1, ![8388608]⟩ Y hY : Vec Ideal ⟨1, ![8388608]⟩ .f32)) r.val d
        = prodTo (factorV I Y E) r d hd
  | 0, _ => rfl
  | d + 1, hd => by
    rw [jacAt, prodTo, jacAt_flat E h r d (by omega), factorV_apply I E h,
      rd_flatten Y hY (by decide) r ⟨d, hd⟩ (by dsimp only; omega),
      rd_flatten I hI (by decide) ⟨d, hd⟩ (binFin (by decide) (Y (ix2 r ⟨d, hd⟩))) (by rw [binFin]; dsimp only; omega)]

end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From the same arguments, in the unit cube, the reference's mapped coordinates are the kernel's. -/
theorem resX_eq (h : InCube (argY m' c))
    (h0 : argY m' c = m ((c.tc : Thread Cert.KernelIdeal.nD Cert.KernelIdeal.τ).loc Cert.KernelIdeal.main_arg0))
    (h1 : argG m' c = m ((c.tc : Thread Cert.KernelIdeal.nD Cert.KernelIdeal.τ).loc Cert.KernelIdeal.main_arg1))
    (h2 : argI m' c = m ((c.tc : Thread Cert.KernelIdeal.nD Cert.KernelIdeal.τ).loc Cert.KernelIdeal.main_arg2)) :
    Cert.ReferenceIdeal.Value.res_out0 m' c = Cert.KernelIdeal.Vegas.resX m c := by
  obtain ⟨E, e⟩ := out0_eq m' c
  refine e.trans (funext fun j => ?_)
  rw [mapV_apply _ _ E h]
  unfold Cert.KernelIdeal.Vegas.resX Cert.KernelIdeal.Vegas.yFlat Cert.KernelIdeal.Vegas.gFlat Cert.KernelIdeal.Vegas.iFlat
  rw [← h0, ← h1, ← h2]
  obtain ⟨r, d, rfl⟩ : ∃ (r : Fin 1048576) (d : Fin 8), j = ix2 r d := ⟨_, _, eq_ix2 j⟩
  have hlt : r.val * 8 + d.val < 8388608 := by have := r.isLt; have := d.isLt; omega
  refine ((shapeCast_apply _ _ _ (ix1 ⟨r.val * 8 + d.val, hlt⟩) ?_).trans (xAt_flat _ _ _ _ _ _ r d rfl)).symm
  rw [Shape.rowMajor_val_two, Shape.rowMajor_val_one]
  rfl

/-- From the same arguments, in the unit cube, the reference's Jacobians are the kernel's. -/
theorem resJ_eq (h : InCube (argY m' c))
    (h0 : argY m' c = m ((c.tc : Thread Cert.KernelIdeal.nD Cert.KernelIdeal.τ).loc Cert.KernelIdeal.main_arg0))
    (h2 : argI m' c = m ((c.tc : Thread Cert.KernelIdeal.nD Cert.KernelIdeal.τ).loc Cert.KernelIdeal.main_arg2)) :
    Cert.ReferenceIdeal.Value.res_out1 m' c = Cert.KernelIdeal.Vegas.resJ m c := by
  obtain ⟨E, e⟩ := out1_eq m' c
  refine e.trans (funext fun j => ?_)
  rw [prodV_apply _ j _ rfl]
  unfold Cert.KernelIdeal.Vegas.resJ Cert.KernelIdeal.Vegas.yFlat Cert.KernelIdeal.Vegas.iFlat
  rw [← h0, ← h2]
  exact (jacAt_flat _ _ _ _ E h (j 0) 8 le_rfl).symm

/-- Two bits whose conjunction is one are both one. -/
theorem both_one : ∀ {a b : BitVec 1}, IntOp.andi a b = 1#1 → a = 1#1 ∧ b = 1#1 := by decide

/-- The precondition says that every coordinate of every sample lies between zero and one. -/
theorem inCube_of_pre (Y : FVec Ideal ⟨2, ![1048576, 8]⟩ .f32) (G : FVec Ideal ⟨2, ![8, 1001]⟩ .f32)
    (I : FVec Ideal ⟨2, ![8, 1000]⟩ .f32) (h : Cert.Pre_unit_cube.fn (F := Ideal) Y G I = fun _ => 1#1) : InCube Y := by
  intro j
  have : Subsingleton Cert.Pre_unit_cube.S_.Idx := ⟨fun a b => funext fun k => k.elim0⟩
  have e : IntOp.andi (Ideal.cmp .oge (Y j) (Ideal.ofBits .f32 0x00000000#32))
      (Ideal.cmp .olt (Y j) (Ideal.ofBits .f32 0x3F800000#32)) = 1#1 := Host.reduce_andi_all _ _ _ _ ix0 (congrFun h ix0) j
  obtain ⟨ha, hb⟩ := both_one e
  rw [Ideal.ofBits_one_f32] at hb
  rw [Ideal.ofBits_zero_f32] at ha
  exact ⟨of_decide_eq_true ((StableHlo.Predicate.ofBool_eq_one_iff _).mp ha),
    of_decide_eq_true ((StableHlo.Predicate.ofBool_eq_one_iff _).mp hb)⟩

end Cert.Vegas.Agree
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_unit_cube
public import proofs.«01_k».proof.Proof.Vegas.Run
public import proofs.«01_k».proof.Proof.VegasIdeal.Run
public import proofs.«01_k».proof.Proof.Vegas.Agree

@[expose] public section

noncomputable section

namespace Cert.Proof

open Idealize.ShloMosaic Idealize.ShloMosaic.TcCoe Idealize.SL.Sem

/-- The program terminates from every memory, leaves its arguments as they were and every semaphore at zero. -/
theorem frame_p : Cert.quiescent_Kernel := fun m ρ _ =>
  (θ_run Cert.Kernel.defs _ _).mono (fun _ h => ⟨fun c => ⟨(h.1 c).1, (h.1 c).2.1, (h.1 c).2.2.1⟩, h.2⟩)
    (Cert.Kernel.Vegas.run_main (F := Bits) m ρ)

/-- So does the program over the extended reals. -/
theorem frame_pi : Cert.quiescent_KernelIdeal := fun m ρ _ =>
  (θ_run Cert.KernelIdeal.defs _ _).mono (fun _ h => ⟨fun c => ⟨(h.1 c).1, (h.1 c).2.1, (h.1 c).2.2.1⟩, h.2⟩)
    (Cert.KernelIdeal.Vegas.run_main (F := Ideal) m ρ)

/-- So does the reference over the extended reals, which has no semaphore. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Over the extended reals, from the same arguments, every coordinate between zero and one, the program's mapped
    coordinates and Jacobians are the reference's. -/
theorem algebraic : Cert.algebraic_KernelIdeal_ReferenceIdeal_pre_unit_cube := by
  intro m ρ m' ρ' hpre hargs
  have cube (c : Dev Cert.KernelIdeal.nD) : Cert.ReferenceIdeal.Vegas.InCube (Cert.ReferenceIdeal.Vegas.argY m' c) :=
    (congrArg Cert.ReferenceIdeal.Vegas.InCube (hargs c).1).mpr (Cert.Vegas.Agree.inCube_of_pre _ _ _ (hpre c))
  refine ⟨Cert.KernelIdeal.Vegas.resX m, Cert.KernelIdeal.Vegas.resJ m,
    (θ_run Cert.KernelIdeal.defs _ _).mono (fun _ h c => ?_) (Cert.KernelIdeal.Vegas.run_main (F := Ideal) m ρ),
    (θ_run Cert.ReferenceIdeal.defs _ _).mono (fun _ h c => ?_) (Cert.ReferenceIdeal.Value.run (F := Ideal) m' ρ')⟩
  · obtain ⟨h0, h1, h2, hj, hx⟩ := h.1 c
    exact ⟨hx, hj, h0, h1, h2⟩
  · obtain ⟨hx, hj, h0, h1, h2⟩ := h c
    exact ⟨hx.trans (Cert.Vegas.Agree.resX_eq m m' c (cube c) (hargs c).1 (hargs c).2.1 (hargs c).2.2),
      hj.trans (Cert.Vegas.Agree.resJ_eq m m' c (cube c) (hargs c).1 (hargs c).2.2), h0, h1, h2⟩

/-- Everything claimed. -/
theorem claim : Cert.Claim :=
  ⟨Cert.Kernel.Gen.facts, Cert.KernelIdeal.Gen.facts, Cert.ReferenceIdeal.Gen.facts, Cert.Pre_unit_cube.Gen.facts,
    frame_p, frame_pi, fun m ρ _ => frame_pi m ρ trivial, frame_ri, fun m ρ _ => frame_ri m ρ trivial, trivial, algebraic⟩

end Cert.Proof

end
